-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "log2e" .f32 0x3FB8AA3B#32 (((Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v37_0)) (v1 : (c : Dev Cert.Kernel5Ideal.nD) → Buf (Elt Ideal) ((c.tc : Thread Cert.Kernel5Ideal.nD Cert.Kernel5Ideal.τ).loc Cert.Kernel5Ideal.main_v37_1)) (v2 : (c : Dev Cert.Kernel5Ideal.nD) → Buf (Elt Ideal) ((c.tc : Thread Cert.Kernel5Ideal.nD Cert.Kernel5Ideal.τ).loc Cert.Kernel5Ideal.main_v37_2)) (v3 : (c : Dev Cert.Kernel5Ideal.nD) → Buf (Elt Ideal) ((c.tc : Thread Cert.Kernel5Ideal.nD Cert.Kernel5Ideal.τ).loc Cert.Kernel5Ideal.main_v37_3)) (v4 : (c : Dev Cert.Kernel5Ideal.nD) → Buf (Elt Ideal) ((c.tc : Thread Cert.Kernel5Ideal.nD Cert.Kernel5Ideal.τ).loc Cert.Kernel5Ideal.main_v37_4)) (v5 : (c : Dev Cert.Kernel5Ideal.nD) → Buf (Elt Ideal) ((c.tc : Thread Cert.Kernel5Ideal.nD Cert.Kernel5Ideal.τ).loc Cert.Kernel5Ideal.main_v37_5)) (v6 : (c : Dev Cert.Kernel5Ideal.nD) → Buf (Elt Ideal) ((c.tc : Thread Cert.Kernel5Ideal.nD Cert.Kernel5Ideal.τ).loc Cert.Kernel5Ideal.main_v37_6)) (v7 : (c : Dev Cert.Kernel5Ideal.nD) → Buf (Elt Ideal) ((c.tc : Thread Cert.Kernel5Ideal.nD Cert.Kernel5Ideal.τ).loc Cert.Kernel5Ideal.main_v37_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37_0) = v0 c
          ∧ r.2.mem ((c.tc : Thread Cert.Kernel5Ideal.nD Cert.Kernel5Ideal.τ).loc Cert.Kernel5Ideal.main_v37_1) = v1 c
          ∧ r.2.mem ((c.tc : Thread Cert.Kernel5Ideal.nD Cert.Kernel5Ideal.τ).loc Cert.Kernel5Ideal.main_v37_2) = v2 c
          ∧ r.2.mem ((c.tc : Thread Cert.Kernel5Ideal.nD Cert.Kernel5Ideal.τ).loc Cert.Kernel5Ideal.main_v37_3) = v3 c
          ∧ r.2.mem ((c.tc : Thread Cert.Kernel5Ideal.nD Cert.Kernel5Ideal.τ).loc Cert.Kernel5Ideal.main_v37_4) = v4 c
          ∧ r.2.mem ((c.tc : Thread Cert.Kernel5Ideal.nD Cert.Kernel5Ideal.τ).loc Cert.Kernel5Ideal.main_v37_5) = v5 c
          ∧ r.2.mem ((c.tc : Thread Cert.Kernel5Ideal.nD Cert.Kernel5Ideal.τ).loc Cert.Kernel5Ideal.main_v37_6) = v6 c
          ∧ r.2.mem ((c.tc : Thread Cert.Kernel5Ideal.nD Cert.Kernel5Ideal.τ).loc Cert.Kernel5Ideal.main_v37_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v190) = v0 c
          ∧ r.2.mem ((c.tc : Thread Cert.Reference5Ideal.nD Cert.Reference5Ideal.τ).loc Cert.Reference5Ideal.main_v191) = v1 c
          ∧ r.2.mem ((c.tc : Thread Cert.Reference5Ideal.nD Cert.Reference5Ideal.τ).loc Cert.Reference5Ideal.main_v192) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_v122) = v4 c
          ∧ r.2.mem ((c.tc : Thread Cert.Reference5Ideal.nD Cert.Reference5Ideal.τ).loc Cert.Reference5Ideal.main_v193) = v5 c
          ∧ r.2.mem ((c.tc : Thread Cert.Reference5Ideal.nD Cert.Reference5Ideal.τ).loc Cert.Reference5Ideal.main_v194) = v6 c
          ∧ r.2.mem ((c.tc : Thread Cert.Reference5Ideal.nD Cert.Reference5Ideal.τ).loc Cert.Reference5Ideal.main_v195) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x8x16384x128 : Shape := ⟨4, ![2, 8, 16384, 128]⟩
abbrev S2x8x256x128x128 : Shape := ⟨5, ![2, 8, 256, 128, 128]⟩
abbrev S1x8x1024x128 : Shape := ⟨4, ![1, 8, 1024, 128]⟩
abbrev S1x8x16x128x128 : Shape := ⟨5, ![1, 8, 16, 128, 128]⟩
abbrev S8x128x128 : Shape := ⟨3, ![8, 128, 128]⟩
abbrev S1x1x64x128 : Shape := ⟨4, ![1, 1, 64, 128]⟩
abbrev S64x128 : Shape := ⟨2, ![64, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S1x128 : Shape := ⟨2, ![1, 128]⟩

abbrev nBuf : Space → Nat
  | .hbm => 4
  | .vmem => 9
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .f32⟩
  | .hbm, ⟨2, _⟩ => ⟨S2x8x16384x128, .bf16⟩
  | .hbm, ⟨3, _⟩ => ⟨S2x8x256x128x128, .bf16⟩
  | .local _ .vmem, ⟨0, _⟩ => ⟨S1x8x1024x128, .bf16⟩
  | .local _ .vmem, ⟨1, _⟩ => ⟨S1x8x1024x128, .bf16⟩
  | .local _ .vmem, ⟨2, _⟩ => ⟨S1x8x1024x128, .f32⟩
  | .local _ .vmem, ⟨3, _⟩ => ⟨S1x8x1024x128, .f32⟩
  | .local _ .vmem, ⟨4, _⟩ => ⟨S1x8x1024x128, .bf16⟩
  | .local _ .vmem, ⟨5, _⟩ => ⟨S1x8x1024x128, .bf16⟩
  | .local _ .vmem, ⟨6, _⟩ => ⟨S1x8x16x128x128, .bf16⟩
  | .local _ .vmem, ⟨7, _⟩ => ⟨S1x8x16x128x128, .bf16⟩
  | .local _ .vmem, ⟨8, _⟩ => ⟨S8x128x128, .f32⟩
  | _, _ => ⟨S2x8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  v5
def k0_off1 (k0_t1 : Fin k0_t1_loop.trips) : Fin 4 → Nat :=
  let c0 : Index := 0#32
  let c0_3 : Index := 0#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  let v6 : BitVec 32 := v5
  let v7 : Index := Scalar.indexCast v6
  let c0_4 : Index := 0#32
  ![0, 0, v7.toNat, 0]
def k0_off2 (k0_t1 : Fin k0_t1_loop.trips) : Fin 5 → Nat :=
  let c0_8 : Index := 0#32
  let c0_9 : Index := 0#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let v13 : Index := Scalar.indexCast v4
  let c0_10 : Index := 0#32
  let c0_11 : Index := 0#32
  ![0, 0, v13.toNat, 0, 0]
def k0_off3 (k0_t1 : Fin k0_t1_loop.trips) : Fin 4 → Nat :=
  let c0_21 : Index := 0#32
  let c1 : Index := 1#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  let v6 : BitVec 32 := v5
  let v38 : Index := Scalar.indexCast v6
  let c0_22 : Index := 0#32
  ![0, 1, v38.toNat, 0]
def k0_off4 (k0_t1 : Fin k0_t1_loop.trips) : Fin 5 → Nat :=
  let c0_26 : Index := 0#32
  let c1_27 : Index := 1#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let v44 : Index := Scalar.indexCast v4
  let c0_28 : Index := 0#32
  let c0_29 : Index := 0#32
  ![0, 1, v44.toNat, 0, 0]
def k0_off5 (k0_t1 : Fin k0_t1_loop.trips) : Fin 4 → Nat :=
  let c0_40 : Index := 0#32
  let c2 : Index := 2#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  let v6 : BitVec 32 := v5
  let v69 : Index := Scalar.indexCast v6
  let c0_41 : Index := 0#32
  ![0, 2, v69.toNat, 0]
def k0_off6 (k0_t1 : Fin k0_t1_loop.trips) : Fin 5 → Nat :=
  let c0_45 : Index := 0#32
  let c2_46 : Index := 2#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let v75 : Index := Scalar.indexCast v4
  let c0_47 : Index := 0#32
  let c0_48 : Index := 0#32
  ![0, 2, v75.toNat, 0, 0]
def k0_off7 (k0_t1 : Fin k0_t1_loop.trips) : Fin 4 → Nat :=
  let c0_59 : Index := 0#32
  let c3 : Index := 3#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  let v6 : BitVec 32 := v5
  let v100 : Index := Scalar.indexCast v6
  let c0_60 : Index := 0#32
  ![0, 3, v100.toNat, 0]
def k0_off8 (k0_t1 : Fin k0_t1_loop.trips) : Fin 5 → Nat :=
  let c0_64 : Index := 0#32
  let c3_65 : Index := 3#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let v106 : Index := Scalar.indexCast v4
  let c0_66 : Index := 0#32
  let c0_67 : Index := 0#32
  ![0, 3, v106.toNat, 0, 0]
def k0_off9 (k0_t1 : Fin k0_t1_loop.trips) : Fin 4 → Nat :=
  let c0_78 : Index := 0#32
  let c4 : Index := 4#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  let v6 : BitVec 32 := v5
  let v131 : Index := Scalar.indexCast v6
  let c0_79 : Index := 0#32
  ![0, 4, v131.toNat, 0]
def k0_off10 (k0_t1 : Fin k0_t1_loop.trips) : Fin 5 → Nat :=
  let c0_83 : Index := 0#32
  let c4_84 : Index := 4#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let v137 : Index := Scalar.indexCast v4
  let c0_85 : Index := 0#32
  let c0_86 : Index := 0#32
  ![0, 4, v137.toNat, 0, 0]
def k0_off11 (k0_t1 : Fin k0_t1_loop.trips) : Fin 4 → Nat :=
  let c0_97 : Index := 0#32
  let c5 : Index := 5#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  let v6 : BitVec 32 := v5
  let v162 : Index := Scalar.indexCast v6
  let c0_98 : Index := 0#32
  ![0, 5, v162.toNat, 0]
def k0_off12 (k0_t1 : Fin k0_t1_loop.trips) : Fin 5 → Nat :=
  let c0_102 : Index := 0#32
  let c5_103 : Index := 5#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let v168 : Index := Scalar.indexCast v4
  let c0_104 : Index := 0#32
  let c0_105 : Index := 0#32
  ![0, 5, v168.toNat, 0, 0]
def k0_off13 (k0_t1 : Fin k0_t1_loop.trips) : Fin 4 → Nat :=
  let c0_116 : Index := 0#32
  let c6 : Index := 6#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  let v6 : BitVec 32 := v5
  let v193 : Index := Scalar.indexCast v6
  let c0_117 : Index := 0#32
  ![0, 6, v193.toNat, 0]
def k0_off14 (k0_t1 : Fin k0_t1_loop.trips) : Fin 5 → Nat :=
  let c0_121 : Index := 0#32
  let c6_122 : Index := 6#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let v199 : Index := Scalar.indexCast v4
  let c0_123 : Index := 0#32
  let c0_124 : Index := 0#32
  ![0, 6, v199.toNat, 0, 0]
def k0_off15 (k0_t1 : Fin k0_t1_loop.trips) : Fin 4 → Nat :=
  let c0_135 : Index := 0#32
  let c7 : Index := 7#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let c64_i32 : BitVec 32 := 64#32
  let v5 : BitVec 32 := Scalar.muli v4 c64_i32
  let v6 : BitVec 32 := v5
  let v224 : Index := Scalar.indexCast v6
  let c0_136 : Index := 0#32
  ![0, 7, v224.toNat, 0]
def k0_off16 (k0_t1 : Fin k0_t1_loop.trips) : Fin 5 → Nat :=
  let c0_140 : Index := 0#32
  let c7_141 : Index := 7#32
  let c15_i32 : BitVec 32 := 15#32
  let c0_i32_1 : BitVec 32 := 0#32
  let c1_i32 : BitVec 32 := 1#32
  let arg7 : BitVec 32 := Scf.iv c0_i32_1 c1_i32 k0_t1
  let v4 : BitVec 32 := Scalar.subi c15_i32 arg7
  let v230 : Index := Scalar.indexCast v4
  let c0_142 : Index := 0#32
  let c0_143 : Index := 0#32
  ![0, 7, v230.toNat, 0, 0]
def cc0_transform_0 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x16x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8x16384x128 : Shape := ⟨4, ![2, 8, 16384, 128]⟩
abbrev S_ : Shape := ⟨0, ![]⟩
abbrev S2x8x128x128 : Shape := ⟨4, ![2, 8, 128, 128]⟩
abbrev S2x8x256x64x128 : Shape := ⟨5, ![2, 8, 256, 64, 128]⟩
abbrev S256x2x8x64x128 : Shape := ⟨5, ![256, 2, 8, 64, 128]⟩
abbrev S256x2x8x128x128 : Shape := ⟨5, ![256, 2, 8, 128, 128]⟩
abbrev S1x2x8x64x128 : Shape := ⟨5, ![1, 2, 8, 64, 128]⟩
abbrev S2x8x64x128 : Shape := ⟨4, ![2, 8, 64, 128]⟩
abbrev S2x8x1x128 : Shape := ⟨4, ![2, 8, 1, 128]⟩
abbrev S2x8x128 : Shape := ⟨3, ![2, 8, 128]⟩
abbrev S2x8x128x1 : Shape := ⟨4, ![2, 8, 128, 1]⟩
abbrev S1x2x8x128x128 : Shape := ⟨5, ![1, 2, 8, 128, 128]⟩
abbrev S2x8x256x128x128 : Shape := ⟨5, ![2, 8, 256, 128, 128]⟩

abbrev nBuf : Space → Nat
  | .hbm => 72
  | .vmem => 0
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .f32⟩
  | .hbm, ⟨2, _⟩ => ⟨S2x8x16384x128, .bf16⟩
  | .hbm, ⟨3, _⟩ => ⟨S_, .f32⟩
  | .hbm, ⟨4, _⟩ => ⟨S2x8x128x128, .f32⟩
  | .hbm, ⟨5, _⟩ => ⟨S2x8x16384x128, .f32⟩
  | .hbm, ⟨6, _⟩ => ⟨S2x8x16384x128, .f32⟩
  | .hbm, ⟨7, _⟩ => ⟨S2x8x256x64x128, .f32⟩
  | .hbm, ⟨8, _⟩ => ⟨S256x2x8x64x128, .f32⟩
  | .hbm, ⟨9, _⟩ => ⟨S2x8x16384x128, .f32⟩
  | .hbm, ⟨10, _⟩ => ⟨S2x8x256x64x128, .f32⟩
  | .hbm, ⟨11, _⟩ => ⟨S256x2x8x64x128, .f32⟩
  | .hbm, ⟨12, _⟩ => ⟨S2x8x16384x128, .f32⟩
  | .hbm, ⟨13, _⟩ => ⟨S2x8x16384x128, .f32⟩
  | .hbm, ⟨14, _⟩ => ⟨S2x8x256x64x128, .f32⟩
  | .hbm, ⟨15, _⟩ => ⟨S256x2x8x64x128, .f32⟩
  | .hbm, ⟨16, _⟩ => ⟨S_, .f32⟩
  | .hbm, ⟨17, _⟩ => ⟨S256x2x8x128x128, .f32⟩
  | .hbm, ⟨18, _⟩ => ⟨S_, .i32⟩
  | .hbm, ⟨19, _⟩ => ⟨S256x2x8x64x128, .f32⟩
  | .hbm, ⟨20, _⟩ => ⟨S256x2x8x64x128, .f32⟩
  | .hbm, ⟨21, _⟩ => ⟨S256x2x8x64x128, .f32⟩
  | .hbm, ⟨22, _⟩ => ⟨S_, .i32⟩
  | .hbm, ⟨23, _⟩ => ⟨S2x8x128x128, .f32⟩
  | .hbm, ⟨24, _⟩ => ⟨S256x2x8x128x128, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x2x8x64x128, .f32⟩
  | .hbm, ⟨32, _⟩ => ⟨S2x8x64x128, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x2x8x64x128, .f32⟩
  | .hbm, ⟨38, _⟩ => ⟨S2x8x64x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x2x8x64x128, .f32⟩
  | .hbm, ⟨44, _⟩ => ⟨S2x8x64x128, .f32⟩
  | .hbm, ⟨45, _⟩ => ⟨S2x8x1x128, .f32⟩
  | .hbm, ⟨46, _⟩ => ⟨S2x8x128, .f32⟩
  | .hbm, ⟨47, _⟩ => ⟨S_, .f32⟩
  | .hbm, ⟨48, _⟩ => ⟨S2x8x128, .f32⟩
  | .hbm, ⟨49, _⟩ => ⟨S2x8x128, .f32⟩
  | .hbm, ⟨50, _⟩ => ⟨S2x8x128x1, .f32⟩
  | .hbm, ⟨51, _⟩ => ⟨S2x8x128x128, .f32⟩
  | .hbm, ⟨52, _⟩ => ⟨S2x8x128x128, .f32⟩
  | .hbm, ⟨53, _⟩ => ⟨S2x8x64x128, .f32⟩
  | .hbm, ⟨54, _⟩ => ⟨S2x8x64x128, .f32⟩
  | .hbm, ⟨55, _⟩ => ⟨S_, .f32⟩
  | .hbm, ⟨56, _⟩ => ⟨S2x8x64x128, .f32⟩
  | .hbm, ⟨57, _⟩ => ⟨S2x8x64x128, .f32⟩
  | .hbm, ⟨58, _⟩ => ⟨S2x8x64x128, .f32⟩
  | .hbm, ⟨59, _⟩ => ⟨S2x8x128x128, .f32⟩
  | .hbm, ⟨60, _⟩ => ⟨S2x8x128x128, .f32⟩
  | .hbm, ⟨61, _⟩ => ⟨S1x2x8x128x128, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S256x2x8x128x128, .f32⟩
  | .hbm, ⟨67, _⟩ => ⟨S_, .i32⟩
  | .hbm, ⟨68, _⟩ => ⟨S_, .i32⟩
  | .hbm, ⟨69, _⟩ => ⟨S256x2x8x128x128, .f32⟩
  | .hbm, ⟨70, _⟩ => ⟨S2x8x256x128x128, .f32⟩
  | .hbm, ⟨71, _⟩ => ⟨S2x8x256x128x128, .bf16⟩
  | _, _ => ⟨S2x8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_c : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_while0c_c_6 : Ref sig .tc := ⟨.hbm, 25, rfl⟩
abbrev main_while0c_v17 : Ref sig .tc := ⟨.hbm, 26, rfl⟩
abbrev main_while0b_call3_c : Ref sig .tc := ⟨.hbm, 27, rfl⟩
abbrev main_while0b_call3_c_0 : Ref sig .tc := ⟨.hbm, 28, rfl⟩
abbrev main_while0b_call3_c_1 : Ref sig .tc := ⟨.hbm, 29, rfl⟩
abbrev main_while0b_call3_c_2 : Ref sig .tc := ⟨.hbm, 30, rfl⟩
abbrev main_while0b_call3_v0 : Ref sig .tc := ⟨.hbm, 31, rfl⟩
abbrev main_while0b_v17 : Ref sig .tc := ⟨.hbm, 32, rfl⟩
abbrev main_while0b_call4_c : Ref sig .tc := ⟨.hbm, 33, rfl⟩
abbrev main_while0b_call4_c_0 : Ref sig .tc := ⟨.hbm, 34, rfl⟩
abbrev main_while0b_call4_c_1 : Ref sig .tc := ⟨.hbm, 35, rfl⟩
abbrev main_while0b_call4_c_2 : Ref sig .tc := ⟨.hbm, 36, rfl⟩
abbrev main_while0b_call4_v0 : Ref sig .tc := ⟨.hbm, 37, rfl⟩
abbrev main_while0b_v18 : Ref sig .tc := ⟨.hbm, 38, rfl⟩
abbrev main_while0b_call5_c : Ref sig .tc := ⟨.hbm, 39, rfl⟩
abbrev main_while0b_call5_c_0 : Ref sig .tc := ⟨.hbm, 40, rfl⟩
abbrev main_while0b_call5_c_1 : Ref sig .tc := ⟨.hbm, 41, rfl⟩
abbrev main_while0b_call5_c_2 : Ref sig .tc := ⟨.hbm, 42, rfl⟩
abbrev main_while0b_call5_v0 : Ref sig .tc := ⟨.hbm, 43, rfl⟩
abbrev main_while0b_v19 : Ref sig .tc := ⟨.hbm, 44, rfl⟩
abbrev main_while0b_v20 : Ref sig .tc := ⟨.hbm, 45, rfl⟩
abbrev main_while0b_v21 : Ref sig .tc := ⟨.hbm, 46, rfl⟩
abbrev main_while0b_cst_6 : Ref sig .tc := ⟨.hbm, 47, rfl⟩
abbrev main_while0b_v22 : Ref sig .tc := ⟨.hbm, 48, rfl⟩
abbrev main_while0b_v23 : Ref sig .tc := ⟨.hbm, 49, rfl⟩
abbrev main_while0b_v24 : Ref sig .tc := ⟨.hbm, 50, rfl⟩
abbrev main_while0b_v25 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_cst_7 : Ref sig .tc := ⟨.hbm, 55, rfl⟩
abbrev main_while0b_v29 : Ref sig .tc := ⟨.hbm, 56, rfl⟩
abbrev main_while0b_v30 : Ref sig .tc := ⟨.hbm, 57, rfl⟩
abbrev main_while0b_v31 : Ref sig .tc := ⟨.hbm, 58, rfl⟩
abbrev main_while0b_v32 : Ref sig .tc := ⟨.hbm, 59, rfl⟩
abbrev main_while0b_v33 : Ref sig .tc := ⟨.hbm, 60, rfl⟩
abbrev main_while0b_call6_v0 : Ref sig .tc := ⟨.hbm, 61, rfl⟩
abbrev main_while0b_call6_c : Ref sig .tc := ⟨.hbm, 62, rfl⟩
abbrev main_while0b_call6_c_0 : Ref sig .tc := ⟨.hbm, 63, rfl⟩
abbrev main_while0b_call6_c_1 : Ref sig .tc := ⟨.hbm, 64, rfl⟩
abbrev main_while0b_call6_c_2 : Ref sig .tc := ⟨.hbm, 65, rfl⟩
abbrev main_while0b_v34 : Ref sig .tc := ⟨.hbm, 66, rfl⟩
abbrev main_while0b_c_8 : Ref sig .tc := ⟨.hbm, 67, rfl⟩
abbrev main_while0b_v35 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S32768x2048 : Shape := ⟨2, ![32768, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S32768x2048 : Shape := ⟨2, ![32768, 2048]⟩
abbrev S2048x5632 : Shape := ⟨2, ![2048, 5632]⟩
abbrev S5632x2048 : Shape := ⟨2, ![5632, 2048]⟩
abbrev S32768x5632 : Shape := ⟨2, ![32768, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S32768x5632, .f32⟩
  | .hbm, ⟨6, _⟩ => ⟨S32768x5632, .f32⟩
  | .hbm, ⟨7, _⟩ => ⟨S32768x5632, .f32⟩
  | .hbm, ⟨8, _⟩ => ⟨S_, .f32⟩
  | .hbm, ⟨9, _⟩ => ⟨S32768x5632, .f32⟩
  | .hbm, ⟨10, _⟩ => ⟨S32768x5632, .f32⟩
  | .hbm, ⟨11, _⟩ => ⟨S_, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel3.lean ====
abbrev S32768x2048 : Shape := ⟨2, ![32768, 2048]⟩
abbrev S2x8x16384x128 : Shape := ⟨4, ![2, 8, 16384, 128]⟩
abbrev S32768x1024 : Shape := ⟨2, ![32768, 1024]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x8x512x128 : Shape := ⟨4, ![1, 8, 512, 128]⟩
abbrev S512x1024 : Shape := ⟨2, ![512, 1024]⟩
abbrev S1x1x256x128 : Shape := ⟨4, ![1, 1, 256, 128]⟩
abbrev S256x128 : Shape := ⟨2, ![256, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2x8x16384x128, .bf16⟩
  | .hbm, ⟨2, _⟩ => ⟨S32768x1024, .bf16⟩
  | .hbm, ⟨3, _⟩ => ⟨S2048x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S32768x2048, .f32⟩
  | .hbm, ⟨8, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x8x512x128, .bf16⟩
  | .local _ .vmem, ⟨3, _⟩ => ⟨S1x8x512x128, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x2048 : Shape := ⟨2, ![32768, 2048]⟩
abbrev S2x8x16384x128 : Shape := ⟨4, ![2, 8, 16384, 128]⟩
abbrev S32768x1024 : Shape := ⟨2, ![32768, 1024]⟩
abbrev S2048x2048 : Shape := ⟨2, ![2048, 2048]⟩
abbrev S2048 : Shape := ⟨1, ![2048]⟩
abbrev S2x16384x8x128 : Shape := ⟨4, ![2, 16384, 8, 128]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x8x16384x128, .bf16⟩
  | .hbm, ⟨2, _⟩ => ⟨S32768x1024, .bf16⟩
  | .hbm, ⟨3, _⟩ => ⟨S2048x2048, .f32⟩
  | .hbm, ⟨4, _⟩ => ⟨S2048, .f32⟩
  | .hbm, ⟨5, _⟩ => ⟨S2x8x16384x128, .f32⟩
  | .hbm, ⟨6, _⟩ => ⟨S2x16384x8x128, .f32⟩
  | .hbm, ⟨7, _⟩ => ⟨S32768x1024, .f32⟩
  | .hbm, ⟨8, _⟩ => ⟨S32768x1024, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S1x2048, .f32⟩
  | .hbm, ⟨26, _⟩ => ⟨S32768x2048, .f32⟩
  | .hbm, ⟨27, _⟩ => ⟨S32768x2048, .f32⟩
  | .hbm, ⟨28, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S32768x2048 : Shape := ⟨2, ![32768, 2048]⟩
abbrev S32768x256 : Shape := ⟨2, ![32768, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x256, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S1x2048, .f32⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x2048 : Shape := ⟨2, ![32768, 2048]⟩
abbrev S32768x256 : Shape := ⟨2, ![32768, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x256, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel5.lean ====
abbrev S32768x2048 : Shape := ⟨2, ![32768, 2048]⟩
abbrev S2048 : Shape := ⟨1, ![2048]⟩
abbrev S2048x7168 : Shape := ⟨2, ![2048, 7168]⟩
abbrev S2x1024 : Shape := ⟨2, ![2, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x1024 : Shape := ⟨2, ![1, 1024]⟩
abbrev S1x2048 : Shape := ⟨2, ![1, 2048]⟩
abbrev S8x128x1 : Shape := ⟨3, ![8, 128, 1]⟩
abbrev S2x8x16384x128 : Shape := ⟨4, ![2, 8, 16384, 128]⟩
abbrev S32768x1024 : Shape := ⟨2, ![32768, 1024]⟩
abbrev S256x2048 : Shape := ⟨2, ![256, 2048]⟩
abbrev S1x8x256x128 : Shape := ⟨4, ![1, 8, 256, 128]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x1024 : Shape := ⟨2, ![128, 1024]⟩
abbrev S128 : Shape := ⟨1, ![128]⟩
abbrev S1x512 : Shape := ⟨2, ![1, 512]⟩
abbrev S2048x512 : Shape := ⟨2, ![2048, 512]⟩
abbrev S128x2048 : Shape := ⟨2, ![128, 2048]⟩
abbrev S128x512 : Shape := ⟨2, ![128, 512]⟩
abbrev S16x8x512 : Shape := ⟨3, ![16, 8, 512]⟩
abbrev S1x8x512 : Shape := ⟨3, ![1, 8, 512]⟩
abbrev S8x512 : Shape := ⟨2, ![8, 512]⟩
abbrev S1x1x128x128 : Shape := ⟨4, ![1, 1, 128, 128]⟩
abbrev S256x128 : Shape := ⟨2, ![256, 128]⟩
abbrev S1x1x256x128 : Shape := ⟨4, ![1, 1, 256, 128]⟩

abbrev nBuf : Space → Nat
  | .hbm => 65
  | .vmem => 27
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x7168, .f32⟩
  | .hbm, ⟨3, _⟩ => ⟨S2x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S2x1024, .f32⟩
  | .hbm, ⟨23, _⟩ => ⟨S2x1024, .f32⟩
  | .hbm, ⟨24, _⟩ => ⟨S_, .f32⟩
  | .hbm, ⟨25, _⟩ => ⟨S_, .f32⟩
  | .hbm, ⟨26, _⟩ => ⟨S2x1024, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S2x1024, .f32⟩
  | .hbm, ⟨34, _⟩ => ⟨S2x1024, .f32⟩
  | .hbm, ⟨35, _⟩ => ⟨S2x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2x1024, .f32⟩
  | .hbm, ⟨40, _⟩ => ⟨S2x1024, .f32⟩
  | .hbm, ⟨41, _⟩ => ⟨S_, .f32⟩
  | .hbm, ⟨42, _⟩ => ⟨S_, .f32⟩
  | .hbm, ⟨43, _⟩ => ⟨S2x1024, .f32⟩
  | .hbm, ⟨44, _⟩ => ⟨S1x2048, .f32⟩
  | .hbm, ⟨45, _⟩ => ⟨S2048x7168, .bf16⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S8x128x128, .bf16⟩
  | .hbm, ⟨55, _⟩ => ⟨S8x128x1, .f32⟩
  | .hbm, ⟨56, _⟩ => ⟨S1x1024, .f32⟩
  | .hbm, ⟨57, _⟩ => ⟨S2x8x16384x128, .bf16⟩
  | .hbm, ⟨58, _⟩ => ⟨S2x8x16384x128, .bf16⟩
  | .hbm, ⟨59, _⟩ => ⟨S2x8x16384x128, .bf16⟩
  | .hbm, ⟨60, _⟩ => ⟨S2x8x16384x128, .f32⟩
  | .hbm, ⟨61, _⟩ => ⟨S2x8x16384x128, .f32⟩
  | .hbm, ⟨62, _⟩ => ⟨S2x8x16384x128, .bf16⟩
  | .hbm, ⟨63, _⟩ => ⟨S2x8x16384x128, .bf16⟩
  | .hbm, ⟨64, _⟩ => ⟨S32768x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x7168, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S8x128x1, .f32⟩
  | .local _ .vmem, ⟨10, _⟩ => ⟨S1x1024, .f32⟩
  | .local _ .vmem, ⟨11, _⟩ => ⟨S1x8x256x128, .bf16⟩
  | .local _ .vmem, ⟨12, _⟩ => ⟨S1x8x256x128, .bf16⟩
  | .local _ .vmem, ⟨13, _⟩ => ⟨S1x8x256x128, .bf16⟩
  | .local _ .vmem, ⟨14, _⟩ => ⟨S1x8x256x128, .bf16⟩
  | .local _ .vmem, ⟨15, _⟩ => ⟨S1x8x256x128, .bf16⟩
  | .local _ .vmem, ⟨16, _⟩ => ⟨S1x8x256x128, .bf16⟩
  | .local _ .vmem, ⟨17, _⟩ => ⟨S1x8x256x128, .f32⟩
  | .local _ .vmem, ⟨18, _⟩ => ⟨S1x8x256x128, .f32⟩
  | .local _ .vmem, ⟨19, _⟩ => ⟨S1x8x256x128, .f32⟩
  | .local _ .vmem, ⟨20, _⟩ => ⟨S1x8x256x128, .f32⟩
  | .local _ .vmem, ⟨21, _⟩ => ⟨S1x8x256x128, .bf16⟩
  | .local _ .vmem, ⟨22, _⟩ => ⟨S1x8x256x128, .bf16⟩
  | .local _ .vmem, ⟨23, _⟩ => ⟨S1x8x256x128, .bf16⟩
  | .local _ .vmem, ⟨24, _⟩ => ⟨S1x8x256x128, .bf16⟩
  | .local _ .vmem, ⟨25, _⟩ => ⟨S256x1024, .bf16⟩
  | .local _ .vmem, ⟨26, _⟩ => ⟨S256x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_call0_cst : Ref sig .tc := ⟨.hbm, 24, rfl⟩
abbrev main_call0_call0_v0 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_call0_cst : Ref sig .tc := ⟨.hbm, 41, rfl⟩
abbrev main_call1_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev main_v37_3 : Ref sig .tc := ⟨.hbm, 60, rfl⟩
abbrev main_v37_4 : Ref sig .tc := ⟨.hbm, 61, rfl⟩
abbrev main_v37_5 : Ref sig .tc := ⟨.hbm, 62, rfl⟩
abbrev main_v37_6 : Ref sig .tc := ⟨.hbm, 63, rfl⟩
abbrev main_v37_7 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel5Ideal.lean ====
variable {F : FTy → Type} [FloatOps F] [Named F]
def κ : String → Option EReal := fun
  | "log2e" => some (((Real.log 2)⁻¹ : ℝ) : EReal)
  | _ => none
-- ==== Reference5Ideal.lean ====
abbrev S32768x2048 : Shape := ⟨2, ![32768, 2048]⟩
abbrev S2048 : Shape := ⟨1, ![2048]⟩
abbrev S2048x7168 : Shape := ⟨2, ![2048, 7168]⟩
abbrev S2x1024 : Shape := ⟨2, ![2, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x1024 : Shape := ⟨2, ![1, 1024]⟩
abbrev S32768 : Shape := ⟨1, ![32768]⟩
abbrev S32768x1 : Shape := ⟨2, ![32768, 1]⟩
abbrev S1x2048 : Shape := ⟨2, ![1, 2048]⟩
abbrev S32768x7168 : Shape := ⟨2, ![32768, 7168]⟩
abbrev S32768x1024 : Shape := ⟨2, ![32768, 1024]⟩
abbrev S2x16384x8x128 : Shape := ⟨4, ![2, 16384, 8, 128]⟩
abbrev S2x8x16384x128 : Shape := ⟨4, ![2, 8, 16384, 128]⟩
abbrev S8x1x128 : Shape := ⟨3, ![8, 1, 128]⟩
abbrev S1x8x1x128 : Shape := ⟨4, ![1, 8, 1, 128]⟩
abbrev S2x8x256x64x128 : Shape := ⟨5, ![2, 8, 256, 64, 128]⟩
abbrev S256x128x8x128 : Shape := ⟨4, ![256, 128, 8, 128]⟩
abbrev S8x256x128x128 : Shape := ⟨4, ![8, 256, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 265
  | .vmem => 0
  | .smem => 0
  | _ => 0

abbrev hbmTy0_0 (i : Nat) : BufTy := match i % 128 with
  | 0 => ⟨S32768x2048, .f32⟩
  | 1 => ⟨S2048, .f32⟩
  | 2 => ⟨S2048x7168, .f32⟩
  | 3 => ⟨S2x1024, .f32⟩
  | 4 => ⟨S2x1024, .f32⟩
  | 5 => ⟨S1024, .f32⟩
  | 6 => ⟨S1024, .f32⟩
  | 7 => ⟨S8x128x128, .f32⟩
  | 8 => ⟨S8x128, .f32⟩
  | 9 => ⟨S1024, .f32⟩
  | 10 => ⟨S_, .f32⟩
  | 11 => ⟨S1024, .f32⟩
  | 12 => ⟨S_, .f32⟩
  | 13 => ⟨S1024, .f32⟩
  | 14 => ⟨S1024, .f32⟩
  | 15 => ⟨S1x1024, .f32⟩
  | 16 => ⟨S2x1024, .f32⟩
  | 17 => ⟨S2x1024, .f32⟩
  | 18 => ⟨S2x1024, .f32⟩
  | 19 => ⟨S_, .f32⟩
  | 20 => ⟨S1024, .f32⟩
  | 21 => ⟨S1x1024, .f32⟩
  | 22 => ⟨S2x1024, .f32⟩
  | 23 => ⟨S2x1024, .f32⟩
  | 24 => ⟨S_, .f32⟩
  | 25 => ⟨S_, .f32⟩
  | 26 => ⟨S2x1024, .f32⟩
  | 27 => ⟨S1x1024, .f32⟩
  | 28 => ⟨S1024, .f32⟩
  | 29 => ⟨S_, .f32⟩
  | 30 => ⟨S1024, .f32⟩
  | 31 => ⟨S_, .f32⟩
  | 32 => ⟨S1024, .f32⟩
  | 33 => ⟨S1024, .f32⟩
  | 34 => ⟨S1x1024, .f32⟩
  | 35 => ⟨S2x1024, .f32⟩
  | 36 => ⟨S2x1024, .f32⟩
  | 37 => ⟨S2x1024, .f32⟩
  | 38 => ⟨S_, .f32⟩
  | 39 => ⟨S1024, .f32⟩
  | 40 => ⟨S1x1024, .f32⟩
  | 41 => ⟨S2x1024, .f32⟩
  | 42 => ⟨S2x1024, .f32⟩
  | 43 => ⟨S_, .f32⟩
  | 44 => ⟨S_, .f32⟩
  | 45 => ⟨S2x1024, .f32⟩
  | 46 => ⟨S1x1024, .f32⟩
  | 47 => ⟨S1024, .f32⟩
  | 48 => ⟨S32768x2048, .f32⟩
  | 49 => ⟨S_, .f32⟩
  | 50 => ⟨S32768, .f32⟩
  | 51 => ⟨S32768x1, .f32⟩
  | 52 => ⟨S_, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S32768x1, .f32⟩
  | 59 => ⟨S32768x2048, .f32⟩
  | 60 => ⟨S32768x2048, .f32⟩
  | 61 => ⟨S1x2048, .f32⟩
  | 62 => ⟨S32768x2048, .f32⟩
  | 63 => ⟨S32768x2048, .f32⟩
  | 64 => ⟨S32768x7168, .f32⟩
  | 65 => ⟨S32768x1024, .f32⟩
  | 66 => ⟨S32768x1024, .f32⟩
  | 67 => ⟨S32768x1024, .f32⟩
  | 68 => ⟨S32768x1024, .f32⟩
  | 69 => ⟨S32768x1024, .f32⟩
  | 70 => ⟨S32768x1024, .f32⟩
  | 71 => ⟨S32768x1024, .f32⟩
  | 72 => ⟨S2x16384x8x128, .f32⟩
  | 73 => ⟨S2x8x16384x128, .f32⟩
  | 74 => ⟨S8x1x128, .f32⟩
  | 75 => ⟨S_, .f32⟩
  | 76 => ⟨S8x1x128, .f32⟩
  | 77 => ⟨S8x1x128, .f32⟩
  | 78 => ⟨S2x8x16384x128, .f32⟩
  | 79 => ⟨S2x8x16384x128, .f32⟩
  | 80 => ⟨S_, .f32⟩
  | 81 => ⟨S2x8x16384x128, .f32⟩
  | 82 => ⟨S2x8x16384x128, .f32⟩
  | 83 => ⟨S_, .f32⟩
  | 84 => ⟨S2x8x16384x128, .f32⟩
  | 85 => ⟨S2x8x16384x128, .f32⟩
  | 86 => ⟨S1x8x1x128, .f32⟩
  | 87 => ⟨S2x8x16384x128, .f32⟩
  | 88 => ⟨S2x8x16384x128, .f32⟩
  | 89 => ⟨S1x8x1x128, .f32⟩
  | 90 => ⟨S2x8x16384x128, .f32⟩
  | 91 => ⟨S2x8x16384x128, .f32⟩
  | 92 => ⟨S2x8x16384x128, .f32⟩
  | 93 => ⟨S_, .f32⟩
  | 94 => ⟨S_, .f32⟩
  | 95 => ⟨S_, .f32⟩
  | 96 => ⟨S2x8x16384x128, .f32⟩
  | 97 => ⟨S2x8x16384x128, .f32⟩
  | 98 => ⟨S2x8x256x64x128, .f32⟩
  | 99 => ⟨S_, .f32⟩
  | 100 => ⟨S_, .f32⟩
  | 101 => ⟨S2x8x256x64x128, .f32⟩
  | 102 => ⟨S_, .f32⟩
  | 103 => ⟨S8x1x128, .f32⟩
  | 104 => ⟨S8x1x128, .f32⟩
  | 105 => ⟨S2x8x16384x128, .f32⟩
  | 106 => ⟨S2x8x16384x128, .f32⟩
  | 107 => ⟨S2x8x16384x128, .f32⟩
  | 108 => ⟨S_, .f32⟩
  | 109 => ⟨S2x8x16384x128, .f32⟩
  | 110 => ⟨S2x8x16384x128, .f32⟩
  | 111 => ⟨S_, .f32⟩
  | 112 => ⟨S2x8x16384x128, .f32⟩
  | 113 => ⟨S2x8x16384x128, .f32⟩
  | 114 => ⟨S1x8x1x128, .f32⟩
  | 115 => ⟨S2x8x16384x128, .f32⟩
  | 116 => ⟨S2x8x16384x128, .f32⟩
  | 117 => ⟨S2x8x16384x128, .f32⟩
  | 118 => ⟨S2x16384x8x128, .f32⟩
  | 119 => ⟨S2x8x16384x128, .f32⟩
  | 120 => ⟨S8x1x128, .f32⟩
  | 121 => ⟨S_, .f32⟩
  | 122 => ⟨S8x1x128, .f32⟩
  | 123 => ⟨S8x1x128, .f32⟩
  | 124 => ⟨S2x8x16384x128, .f32⟩
  | 125 => ⟨S2x8x16384x128, .f32⟩
  | 126 => ⟨S_, .f32⟩
  | 127 => ⟨S2x8x16384x128, .f32⟩
  | _ => ⟨S32768x2048, .f32⟩

abbrev hbmTy0_1 (i : Nat) : BufTy := match i % 128 with
  | 0 => ⟨S2x8x16384x128, .f32⟩
  | 1 => ⟨S_, .f32⟩
  | 2 => ⟨S2x8x16384x128, .f32⟩
  | 3 => ⟨S2x8x16384x128, .f32⟩
  | 4 => ⟨S1x8x1x128, .f32⟩
  | 5 => ⟨S2x8x16384x128, .f32⟩
  | 6 => ⟨S2x8x16384x128, .f32⟩
  | 7 => ⟨S1x8x1x128, .f32⟩
  | 8 => ⟨S2x8x16384x128, .f32⟩
  | 9 => ⟨S2x8x16384x128, .f32⟩
  | 10 => ⟨S2x8x16384x128, .f32⟩
  | 11 => ⟨S_, .f32⟩
  | 12 => ⟨S_, .f32⟩
  | 13 => ⟨S_, .f32⟩
  | 14 => ⟨S2x8x16384x128, .f32⟩
  | 15 => ⟨S2x8x16384x128, .f32⟩
  | 16 => ⟨S2x8x256x64x128, .f32⟩
  | 17 => ⟨S_, .f32⟩
  | 18 => ⟨S_, .f32⟩
  | 19 => ⟨S2x8x256x64x128, .f32⟩
  | 20 => ⟨S_, .f32⟩
  | 21 => ⟨S8x1x128, .f32⟩
  | 22 => ⟨S8x1x128, .f32⟩
  | 23 => ⟨S2x8x16384x128, .f32⟩
  | 24 => ⟨S2x8x16384x128, .f32⟩
  | 25 => ⟨S2x8x16384x128, .f32⟩
  | 26 => ⟨S_, .f32⟩
  | 27 => ⟨S2x8x16384x128, .f32⟩
  | 28 => ⟨S2x8x16384x128, .f32⟩
  | 29 => ⟨S_, .f32⟩
  | 30 => ⟨S2x8x16384x128, .f32⟩
  | 31 => ⟨S2x8x16384x128, .f32⟩
  | 32 => ⟨S1x8x1x128, .f32⟩
  | 33 => ⟨S2x8x16384x128, .f32⟩
  | 34 => ⟨S2x8x16384x128, .f32⟩
  | 35 => ⟨S2x8x16384x128, .f32⟩
  | 36 => ⟨S_, .f32⟩
  | 37 => ⟨S32768x1024, .f32⟩
  | 38 => ⟨S32768x1024, .f32⟩
  | 39 => ⟨S32768x1024, .f32⟩
  | 40 => ⟨S_, .f32⟩
  | 41 => ⟨S32768x1024, .f32⟩
  | 42 => ⟨S32768x1024, .f32⟩
  | 43 => ⟨S32768x1024, .f32⟩
  | 44 => ⟨S32768x1024, .f32⟩
  | 45 => ⟨S_, .f32⟩
  | 46 => ⟨S32768x1024, .f32⟩
  | 47 => ⟨S32768x1024, .f32⟩
  | 48 => ⟨S32768x1024, .f32⟩
  | 49 => ⟨S_, .f32⟩
  | 50 => ⟨S32768x1024, .f32⟩
  | 51 => ⟨S32768x1024, .f32⟩
  | 52 => ⟨S32768x1024, .f32⟩
  | 53 => ⟨S32768x1024, .f32⟩
  | 54 => ⟨S_, .f32⟩
  | 55 => ⟨S32768, .f32⟩
  | 56 => ⟨S32768x1, .f32⟩
  | 57 => ⟨S_, .f32⟩
  | 58 => ⟨S32768x1, .f32⟩
  | 59 => ⟨S32768x1, .f32⟩
  | 60 => ⟨S32768x1024, .f32⟩
  | 61 => ⟨S32768x1024, .f32⟩
  | 62 => ⟨S32768x1024, .f32⟩
  | 63 => ⟨S_, .f32⟩
  | 64 => ⟨S32768, .f32⟩
  | 65 => ⟨S32768x1, .f32⟩
  | 66 => ⟨S_, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S32768x1, .f32⟩
  | 73 => ⟨S32768x1024, .f32⟩
  | 74 => ⟨S32768x1024, .f32⟩
  | 75 => ⟨S1x1024, .f32⟩
  | 76 => ⟨S32768x1024, .f32⟩
  | 77 => ⟨S32768x1024, .f32⟩
  | 78 => ⟨S1x1024, .f32⟩
  | 79 => ⟨S32768x1024, .f32⟩
  | 80 => ⟨S32768x1024, .f32⟩
  | 81 => ⟨S256x128x8x128, .f32⟩
  | 82 => ⟨S8x256x128x128, .f32⟩
  | 83 => ⟨S256x128x8x128, .f32⟩
  | 84 => ⟨S128x8, .f32⟩
  | 85 => ⟨S128x8x1, .f32⟩
  | 86 => ⟨S1x128x8x1, .f32⟩
  | 87 => ⟨S256x128x8x128, .f32⟩
  | 88 => ⟨S256x128x8x128, .f32⟩
  | 89 => ⟨S32768x1024, .f32⟩
  | 90 => ⟨S32768x1024, .f32⟩
  | 91 => ⟨S32768x1024, .f32⟩
  | 92 => ⟨S_, .f32⟩
  | 93 => ⟨S32768, .f32⟩
  | 94 => ⟨S32768x1, .f32⟩
  | 95 => ⟨S_, .f32⟩
  | 96 => ⟨S32768x1, .f32⟩
  | 97 => ⟨S32768x1, .f32⟩
  | 98 => ⟨S_, .f32⟩
  | 99 => ⟨S32768x1, .f32⟩
  | 100 => ⟨S32768x1, .f32⟩
  | 101 => ⟨S32768x1, .f32⟩
  | 102 => ⟨S32768x1024, .f32⟩
  | 103 => ⟨S32768x1024, .f32⟩
  | 104 => ⟨S1x1024, .f32⟩
  | 105 => ⟨S32768x1024, .f32⟩
  | 106 => ⟨S32768x1024, .f32⟩
  | 107 => ⟨S2x16384x8x128, .f32⟩
  | 108 => ⟨S2x8x16384x128, .f32⟩
  | 109 => ⟨S2x8x16384x128, .f32⟩
  | 110 => ⟨S2x8x16384x128, .f32⟩
  | 111 => ⟨S_, .f32⟩
  | 112 => ⟨S2x8x16384x128, .f32⟩
  | 113 => ⟨S2x8x16384x128, .f32⟩
  | 114 => ⟨S_, .f32⟩
  | 115 => ⟨S2x8x16384x128, .f32⟩
  | 116 => ⟨S2x8x16384x128, .f32⟩
  | 117 => ⟨S2x8x16384x128, .f32⟩
  | 118 => ⟨S2x16384x8x128, .f32⟩
  | 119 => ⟨S2x8x16384x128, .f32⟩
  | 120 => ⟨S2x16384x8x128, .f32⟩
  | 121 => ⟨S2x8x16384x128, .f32⟩
  | 122 => ⟨S2x8x16384x128, .f32⟩
  | 123 => ⟨S2x8x16384x128, .f32⟩
  | 124 => ⟨S_, .f32⟩
  | 125 => ⟨S2x8x16384x128, .f32⟩
  | 126 => ⟨S2x8x16384x128, .f32⟩
  | 127 => ⟨S_, .f32⟩
  | _ => ⟨S32768x2048, .f32⟩

abbrev hbmTy0_2 (i : Nat) : BufTy := match i % 128 with
  | 0 => ⟨S2x8x16384x128, .f32⟩
  | 1 => ⟨S2x8x16384x128, .f32⟩
  | 2 => ⟨S2x8x16384x128, .f32⟩
  | 3 => ⟨S2x8x16384x128, .bf16⟩
  | 4 => ⟨S2x8x16384x128, .bf16⟩
  | 5 => ⟨S2x8x16384x128, .bf16⟩
  | 6 => ⟨S2x8x16384x128, .bf16⟩
  | 7 => ⟨S2x8x16384x128, .bf16⟩
  | 8 => ⟨S32768x1024, .bf16⟩
  | _ => ⟨S32768x2048, .f32⟩

abbrev hbmTy (i : Nat) : BufTy := match i / 128 with
  | 0 => hbmTy0_0 i
  | 1 => hbmTy0_1 i
  | 2 => hbmTy0_2 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_call0_cst : Ref sig .tc := ⟨.hbm, 24, rfl⟩
abbrev main_call0_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_call0_cst : Ref sig .tc := ⟨.hbm, 43, rfl⟩
abbrev main_call1_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call2_cst : Ref sig .tc := ⟨.hbm, 99, rfl⟩
abbrev main_call2_v0 : Ref sig .tc := ⟨.hbm, 100, rfl⟩
abbrev main_v72 : Ref sig .tc := ⟨.hbm, 101, rfl⟩
abbrev main_cst_12 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_15 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_16 : Ref sig .tc := ⟨.hbm, 126, rfl⟩
abbrev main_v93 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_18 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call3_cst : Ref sig .tc := ⟨.hbm, 145, rfl⟩
abbrev main_call3_v0 : Ref sig .tc := ⟨.hbm, 146, rfl⟩
abbrev main_v109 : Ref sig .tc := ⟨.hbm, 147, rfl⟩
abbrev main_cst_19 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_20 : Ref sig .tc := ⟨.hbm, 154, rfl⟩
abbrev main_v115 : Ref sig .tc := ⟨.hbm, 155, rfl⟩
abbrev main_v116 : Ref sig .tc := ⟨.hbm, 156, rfl⟩
abbrev main_cst_21 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_22 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_23 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_24 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_25 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_26 : Ref sig .tc := ⟨.hbm, 182, rfl⟩
abbrev main_v137 : Ref sig .tc := ⟨.hbm, 183, rfl⟩
abbrev main_v138 : Ref sig .tc := ⟨.hbm, 184, rfl⟩
abbrev main_cst_27 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_28 : Ref sig .tc := ⟨.hbm, 191, rfl⟩
abbrev main_v144 : Ref sig .tc := ⟨.hbm, 192, rfl⟩
abbrev main_v145 : Ref sig .tc := ⟨.hbm, 193, rfl⟩
abbrev main_cst_29 : Ref sig .tc := ⟨.hbm, 194, rfl⟩
abbrev main_v146 : Ref sig .tc := ⟨.hbm, 195, rfl⟩
abbrev main_v147 : Ref sig .tc := ⟨.hbm, 196, rfl⟩
abbrev main_cst_30 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_cst_31 : Ref sig .tc := ⟨.hbm, 220, rfl⟩
abbrev main_v170 : Ref sig .tc := ⟨.hbm, 221, rfl⟩
abbrev main_v171 : Ref sig .tc := ⟨.hbm, 222, rfl⟩
abbrev main_cst_32 : Ref sig .tc := ⟨.hbm, 223, rfl⟩
abbrev main_v172 : Ref sig .tc := ⟨.hbm, 224, rfl⟩
abbrev main_v173 : Ref sig .tc := ⟨.hbm, 225, rfl⟩
abbrev main_cst_33 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_call4_v0 : Ref sig .tc := ⟨.hbm, 237, rfl⟩
abbrev main_call4_v1 : Ref sig .tc := ⟨.hbm, 238, rfl⟩
abbrev main_call4_cst : Ref sig .tc := ⟨.hbm, 239, rfl⟩
abbrev main_call4_v2 : Ref sig .tc := ⟨.hbm, 240, rfl⟩
abbrev main_call4_v3 : Ref sig .tc := ⟨.hbm, 241, rfl⟩
abbrev main_call4_cst_0 : Ref sig .tc := ⟨.hbm, 242, rfl⟩
abbrev main_call4_v4 : Ref sig .tc := ⟨.hbm, 243, rfl⟩
abbrev main_call4_v5 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_call5_v0 : Ref sig .tc := ⟨.hbm, 250, rfl⟩
abbrev main_call5_v1 : Ref sig .tc := ⟨.hbm, 251, rfl⟩
abbrev main_call5_cst : Ref sig .tc := ⟨.hbm, 252, rfl⟩
abbrev main_call5_v2 : Ref sig .tc := ⟨.hbm, 253, rfl⟩
abbrev main_call5_v3 : Ref sig .tc := ⟨.hbm, 254, rfl⟩
abbrev main_call5_cst_0 : Ref sig .tc := ⟨.hbm, 255, rfl⟩
abbrev main_call5_v4 : Ref sig .tc := ⟨.hbm, 256, rfl⟩
abbrev main_call5_v5 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩

abbrev nD : Nat := 1
abbrev τ : Topo := Topo.v7x

variable {F : FTy → Type} [FloatOps F]
-- ==== Proof.Ffn.lean ====
/- The gated feed-forward block: what the tiled kernel leaves in its result array is the two-layer formula
   `(silu (h G) * (h U)) D` of the argument arrays, over the extended reals. The kernel walks the hidden axis in
   eleven tiles of 512 columns and adds each tile's product into the block; the formula contracts all 5632 at once. -/
module

public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

/-- One hidden unit from its gate and up projections: `g * (1 / (1 + exp (0 - g))) * u`. -/
def Ffn.act (g u : EReal) : EReal := g * Ideal.div 1 (1 + Ideal.exp (0 - g)) * u

namespace Cert.Reference2Ideal.Ffn

open Cert.Reference2Ideal Cert.Reference2Ideal.Gen

/-- The formula's composed term over its four argument arrays. -/
abbrev REF (h : FVec Ideal S32768x2048 .bf16) (g u : FVec Ideal S2048x5632 .f32) (d : FVec Ideal S5632x2048 .f32) :
    FVec Ideal S32768x2048 .f32 :=
  Host.dotGeneral dot_S32768x5632_S5632x2048_S32768x2048_1_0_0_1_n_n none (mulf (mulf (Host.dotGeneral dot_S32768x2048_S2048x5632_S32768x5632_1_0_0_1_n_n none (extf .f32 h bitsLt_bf16_f32) g) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (Host.dotGeneral dot_S32768x2048_S2048x5632_S32768x5632_1_0_0_1_n_n none (extf .f32 h bitsLt_bf16_f32) g)))))) (Host.dotGeneral dot_S32768x2048_S2048x5632_S32768x5632_1_0_0_1_n_n none (extf .f32 h bitsLt_bf16_f32) u)) d

/-- The formula at one element: a sum over the 5632 hidden units. -/
theorem ref_at (h : FVec Ideal S32768x2048 .bf16) (g u : FVec Ideal S2048x5632 .f32) (d : FVec Ideal S5632x2048 .f32)
    (j : S32768x2048.Idx) :
    REF h g u d j = ∑ x : Fin 5632, _root_.Ffn.act (∑ k : Fin 2048, h (ix2 (j 0) k) * g (ix2 k x))
      (∑ k : Fin 2048, h (ix2 (j 0) k) * u (ix2 k x)) * d (ix2 x (j 1)) := by
  pointwise [REF]
  simp only [_root_.Ffn.act, zero_sub]

end Cert.Reference2Ideal.Ffn

namespace Cert.Kernel2Ideal.Ffn

open Cert.Kernel2Ideal Cert.Kernel2Ideal.Gen
open Idealize.ShloMosaic.Pipeline (Dat)

variable (m : (ℓ : Loc nD τ sig) → Buf (Elt Ideal) ℓ)

/-- The block starts at zero. -/
theorem pay_zero (j : S1024x2048.Idx) : k0_pay1 (F := Ideal) j = 0 := by pointwise [k0_pay1]

/-- One tile's step at one element: what was there plus the tile's 512 hidden units. -/
theorem pay_step (h : FVec Ideal S1024x2048 .bf16) (g u : FVec Ideal S2048x512 .bf16) (acc : FVec Ideal S1024x2048 .f32)
    (d : FVec Ideal S512x2048 .bf16) (j : S1024x2048.Idx) :
    k0_pay2 (F := Ideal) h g u acc d j
      = acc j + ∑ x : Fin 512, _root_.Ffn.act (∑ k : Fin 2048, h (ix2 (j 0) k) * g (ix2 k x))
          (∑ k : Fin 2048, h (ix2 (j 0) k) * u (ix2 k x)) * d (ix2 x (j 1)) := by
  pointwise [k0_pay2]
  rfl

/-- The windows' block indices at point `t` of the 32 by 11 grid. -/
theorem idx : ∀ t : Fin cfg0.N, win0_0.index t = ![t.val / 11, 0] ∧ win0_1.index t = ![0, t.val % 11]
    ∧ win0_2.index t = ![0, t.val % 11] ∧ win0_3.index t = ![t.val % 11, 0] ∧ win0_4.index t = ![t.val / 11, 0] :=
  (by decide +kernel : ∀ t : Fin grid0.N, _)

/-- The gate's weights reach the kernel as launched (the cast is the identity on values). -/
theorem V0 (c : Dev nD) : V m c main_v0 = (truncf .bf16 (m ((c : Thread nD τ).loc main_arg1) : FVec Ideal S2048x5632 .f32) bitsLt_bf16_f32 : FVec Ideal S2048x5632 .bf16) := by
  unfold V; after_results; try rfl

/-- So do the up projection's. -/
theorem V1 (c : Dev nD) : V m c main_v1 = (truncf .bf16 (m ((c : Thread nD τ).loc main_arg2) : FVec Ideal S2048x5632 .f32) bitsLt_bf16_f32 : FVec Ideal S2048x5632 .bf16) := by
  unfold V; after_results; try rfl

/-- So do the down projection's. -/
theorem V2 (c : Dev nD) : V m c main_v2 = (truncf .bf16 (m ((c : Thread nD τ).loc main_arg3) : FVec Ideal S5632x2048 .f32) bitsLt_bf16_f32 : FVec Ideal S5632x2048 .bf16) := by
  unfold V; after_results; try rfl

/-- The result array after the run is the formula of the argument arrays. -/
theorem final (c : Dev nD) : (dats m 0 c).arrAt 4 (cfgs 0).N
    = Cert.Reference2Ideal.Ffn.REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => outsAt0 m c n h) 11 (fun _ => 0) _
    (fun t h j => by rw [outsAt0_A m c t h]; frame_out; rw [pay_step, pay_zero])
    (fun t h j => by rw [outsAt0_B m c t h]; frame_out; rw [pay_step])
    t ((flush0_4 t).mp hf) _, zero_add]
  rw [Cert.Reference2Ideal.Ffn.ref_at]
  refine Fin.sum_mul_add_congr fun s k hl => ?_
  have hi := idx ⟨_, Pipeline.run_point_lt_of_flush t ((flush0_4 t).mp hf) s⟩
  have e0 : ∀ q : Fin 2048, iblk m c 0 ⟨11 * (t.val / 11) + s.val, Pipeline.run_point_lt_of_flush t ((flush0_4 t).mp hf) s⟩ (ix2 (y 0) q)
      = m ((c : Thread nD τ).loc main_arg0) (ix2 ((win0_4.blk t).view.emb y 0) q) := fun q => by
    blk_ext [iblk, V, idx t, hi]
  have e1 : ∀ q : Fin 2048, iblk m c 1 ⟨11 * (t.val / 11) + s.val, Pipeline.run_point_lt_of_flush t ((flush0_4 t).mp hf) s⟩ (ix2 q k)
      = m ((c : Thread nD τ).loc main_arg1) (ix2 q ⟨s.val * 512 + k.val, hl⟩) := fun q => by
    blk_ext [iblk, V0, idx t, hi]
  have e2 : ∀ q : Fin 2048, iblk m c 2 ⟨11 * (t.val / 11) + s.val, Pipeline.run_point_lt_of_flush t ((flush0_4 t).mp hf) s⟩ (ix2 q k)
      = m ((c : Thread nD τ).loc main_arg2) (ix2 q ⟨s.val * 512 + k.val, hl⟩) := fun q => by
    blk_ext [iblk, V1, idx t, hi]
  have e3 : iblk m c 3 ⟨11 * (t.val / 11) + s.val, Pipeline.run_point_lt_of_flush t ((flush0_4 t).mp hf) s⟩ (ix2 k (y 1))
      = m ((c : Thread nD τ).loc main_arg3) (ix2 ⟨s.val * 512 + k.val, hl⟩ ((win0_4.blk t).view.emb y 1)) := by
    blk_ext [iblk, V2, idx t, hi]
  simp only [e0, e1, e2, e3]

end Cert.Kernel2Ideal.Ffn

end
-- ==== Proof.Scan.lean ====
/- One grid point of the backward chunk scan: what the sixteen-trip loop leaves in the carried state and in the block of
   stored states, as plain functions of the point's three input blocks and of the state it starts from. -/
module

public import proofs.«01_k».proof.Proof.Gen.Kernel.Frame.Runs
public import Idealize.ShloMosaic.Lib.Claim
public import Idealize.ShloMosaic.Lib.Pipeline.ValueKit

@[expose] public section

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The 64 rows head `h` of a block reads on trip `k`: the block's chunk `15 - k`. -/
def rows {e : EltTy} (X : Vec F S1x8x1024x128 e) (h : Fin 8) (k : ℕ) : Vec F S1x1x64x128 e :=
  fun j => X (ix4 0 h ⟨(960 - 64 * k) + (j 2).val, by have : (j 2).val < 64 := (j 2).isLt; omega⟩ (j 3))

/-- Head `h`'s state. -/
def slab (S : Vec F S8x128x128 .f32) (h : Fin 8) : Vec F S1x128x128 .f32 := fun j => S (ix3 h (j 1) (j 2))

/-- The state of all heads after trip `k`. -/
def next (K : Vec F S1x8x1024x128 .bf16) (C : Vec F S1x8x1024x128 .f32) (W : Vec F S1x8x1024x128 .bf16) (k : ℕ)
    (S : Vec F S8x128x128 .f32) : Vec F S8x128x128 .f32 :=
  fun j => k0_pay5 (rows C (j 0) k) (slab S (j 0)) (rows K (j 0) k) (rows W (j 0) k) (ix3 0 (j 1) (j 2))

/-- The state before trip `k`, from the state the point starts with. -/
def st (K : Vec F S1x8x1024x128 .bf16) (C : Vec F S1x8x1024x128 .f32) (W : Vec F S1x8x1024x128 .bf16)
    (S : Vec F S8x128x128 .f32) : ℕ → Vec F S8x128x128 .f32
  | 0 => S
  | k + 1 => next K C W k (st K C W S k)

/-- A state as it is stored. -/
def cast16 (S : Vec F S8x128x128 .f32) : Vec F S8x128x128 .bf16 := fun j => k0_pay4 (slab S (j 0)) (ix5 0 0 0 (j 1) (j 2))

/-- The block of stored states: chunk `c` holds the state before trip `15 - c`. -/
def hist (K : Vec F S1x8x1024x128 .bf16) (C : Vec F S1x8x1024x128 .f32) (W : Vec F S1x8x1024x128 .bf16)
    (S : Vec F S8x128x128 .f32) : Vec F S1x8x16x128x128 .bf16 :=
  fun j => cast16 (st K C W S (15 - (j 2).val)) (ix3 (j 1) (j 3) (j 4))

/-- A load of head `h`'s rows at trip `k` is `rows`. -/
theorem load_rows {e : EltTy} (v : View sig .tc .vmem S1x8x1024x128 e) (X : BufTy.Contents (Elt F) v.ty) (off : Fin 4 → ℕ)
    (inb : ∀ a, off a + S1x1x64x128.size a ≤ S1x8x1024x128.size a) (h : Fin 8) (k : ℕ) (hoff : off = ![0, h.val, 960 - 64 * k, 0]) :
    View.readAt (Elt F) v (Rect.unit (s := S1x8x1024x128) off S1x1x64x128.size inb).toLoadRect X = rows (v.read (Elt F) X) h k := by
  subst hoff
  funext j
  rw [View.readAt_apply]
  refine congrArg _ (funext fun a => Fin.ext ?_)
  have h0 : (j 0).val = 0 := by have : (j 0).val < 1 := (j 0).isLt; omega
  have h1 : (j 1).val = 0 := by have : (j 1).val < 1 := (j 1).isLt; omega
  fin_cases a
  · show 0 + 1 * (j 0).val = 0; omega
  · show h.val + 1 * (j 1).val = h.val; omega
  · show (960 - 64 * k) + 1 * (j 2).val = (960 - 64 * k) + (j 2).val; omega
  · show 0 + 1 * (j 3).val = (j 3).val; omega

/-- A load of head `h`'s state is `slab`. -/
theorem load_slab (v : View sig .tc .vmem S8x128x128 .f32) (X : BufTy.Contents (Elt F) v.ty) (off : Fin 3 → ℕ)
    (inb : ∀ a, off a + S1x128x128.size a ≤ S8x128x128.size a) (h : Fin 8) (hoff : off = ![h.val, 0, 0]) :
    View.readAt (Elt F) v (Rect.unit (s := S8x128x128) off S1x128x128.size inb).toLoadRect X = slab (v.read (Elt F) X) h := by
  subst hoff
  funext j
  rw [View.readAt_apply]
  refine congrArg _ (funext fun a => Fin.ext ?_)
  have h0 : (j 0).val = 0 := by have : (j 0).val < 1 := (j 0).isLt; omega
  fin_cases a
  · show h.val + 1 * (j 0).val = h.val; omega
  · show 0 + 1 * (j 1).val = (j 1).val; omega
  · show 0 + 1 * (j 2).val = (j 2).val; omega

/-- Where a store of one head's state lands. -/
theorem emb_slab (off : Fin 3 → ℕ) (inb : ∀ a, off a + S1x128x128.size a ≤ S8x128x128.size a) (h : Fin 8) (hoff : off = ![h.val, 0, 0])
    (x : S1x128x128.Idx) : (Rect.unit (s := S8x128x128) off S1x128x128.size inb).emb x = ix3 h (x 1) (x 2) := by
  subst hoff
  refine funext fun a => Fin.ext ?_
  have h0 : (x 0).val = 0 := by have : (x 0).val < 1 := (x 0).isLt; omega
  fin_cases a
  · show h.val + 1 * (x 0).val = h.val; omega
  · show 0 + 1 * (x 1).val = (x 1).val; omega
  · show 0 + 1 * (x 2).val = (x 2).val; omega

/-- Where a store of one head's chunk state lands. -/
theorem emb_chunk (off : Fin 5 → ℕ) (inb : ∀ a, off a + S1x1x1x128x128.size a ≤ S1x8x16x128x128.size a) (h : Fin 8) (q : Fin 16)
    (hoff : off = ![0, h.val, q.val, 0, 0]) (x : S1x1x1x128x128.Idx) :
    (Rect.unit (s := S1x8x16x128x128) off S1x1x1x128x128.size inb).emb x = ix5 0 h q (x 3) (x 4) := by
  subst hoff
  refine funext fun a => Fin.ext ?_
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  fin_cases a
  · show 0 + 1 * (x 0).val = 0; omega
  · show h.val + 1 * (x 1).val = h.val; omega
  · show q.val + 1 * (x 2).val = q.val; omega
  · show 0 + 1 * (x 3).val = (x 3).val; omega
  · show 0 + 1 * (x 4).val = (x 4).val; omega

theorem mem_of_emb {s : Shape} (r : Rect s) (y : s.Idx) (x : r.shape.Idx) (h : r.emb x = y) : y ∈ r.set := h ▸ r.idx_mem x

section Trip

variable (𝒱 : Variants) (c : Dev nD) (bd : Option 𝒱.V) (i : grid0.Coords)
  (arg2 : Memref sig .tc .vmem S1x8x1024x128 .bf16) (harg2 : arg2.IsWhole) (arg3 : Memref sig .tc .vmem S1x8x1024x128 .f32) (harg3 : arg3.IsWhole)
  (arg4 : Memref sig .tc .vmem S1x8x1024x128 .bf16) (harg4 : arg4.IsWhole) (arg5 : Memref sig .tc .vmem S1x8x16x128x128 .bf16) (harg5 : arg5.IsWhole)
  (arg6 : Memref sig .tc .vmem S8x128x128 .f32) (harg6 : arg6.IsWhole)
  (X2 : BufTy.Contents (Elt F) arg2.view.ty) (X3 : BufTy.Contents (Elt F) arg3.view.ty) (X4 : BufTy.Contents (Elt F) arg4.view.ty)
  (k : Fin k0_t1_loop.trips) (f5 : BufTy.Contents (Elt F) arg5.view.ty) (f6 : BufTy.Contents (Elt F) arg6.view.ty)

theorem trip_lt : k.val < 16 := lt_of_lt_of_eq k.isLt (by decide)

theorem idx_slab (x : S1x128x128.Idx) : x = ix3 0 (x 1) (x 2) := by
  refine funext fun a => Fin.ext ?_
  have h0 : (x 0).val = 0 := by have : (x 0).val < 1 := (x 0).isLt; omega
  fin_cases a
  · exact h0
  · rfl
  · rfl

/-- One head's new state, computed from its loads, is that head of `next`. -/
theorem head_state (h : Fin 8) (offR : Fin 4 → ℕ) (inbR : ∀ a, offR a + S1x1x64x128.size a ≤ S1x8x1024x128.size a)
    (offS : Fin 3 → ℕ) (inbS : ∀ a, offS a + S1x128x128.size a ≤ S8x128x128.size a)
    (hR : offR = ![0, h.val, 960 - 64 * k.val, 0]) (hS : offS = ![h.val, 0, 0]) (x : S1x128x128.Idx) :
    k0_pay5 (View.readAt (Elt F) arg3.view (Rect.unit (s := S1x8x1024x128) offR S1x1x64x128.size inbR).toLoadRect X3)
        (View.readAt (Elt F) arg6.view (Rect.unit (s := S8x128x128) offS S1x128x128.size inbS).toLoadRect f6)
        (View.readAt (Elt F) arg2.view (Rect.unit (s := S1x8x1024x128) offR S1x1x64x128.size inbR).toLoadRect X2)
        (View.readAt (Elt F) arg4.view (Rect.unit (s := S1x8x1024x128) offR S1x1x64x128.size inbR).toLoadRect X4) x
      = next (arg2.view.read (Elt F) X2) (arg3.view.read (Elt F) X3) (arg4.view.read (Elt F) X4) k.val (arg6.view.read (Elt F) f6)
          ((Rect.unit (s := S8x128x128) offS S1x128x128.size inbS).emb x) := by
  rw [emb_slab offS inbS h hS x, load_rows _ X2 offR inbR h k.val hR, load_rows _ X3 offR inbR h k.val hR, load_rows _ X4 offR inbR h k.val hR,
    load_slab _ f6 offS inbS h hS]
  exact congrArg _ (idx_slab x)

/-- What one trip's stores into the state agree with, store by store. -/
theorem state_pieces : ∀ p ∈ (trip_k0_t1 (F := F) 𝒱 c bd i arg2 harg2 arg3 harg3 arg4 harg4 arg5 harg5 arg6 harg6 X2 X3 X4 k).2.1 f5 f6,
    ∀ x : p.1.shape.Idx,
    p.2 x = next (arg2.view.read (Elt F) X2) (arg3.view.read (Elt F) X3) (arg4.view.read (Elt F) X4) k.val (arg6.view.read (Elt F) f6) (p.1.emb x) := by
  unfold trip_k0_t1
  dsimp only
  sl_unfold_run_names
  simp only [List.forall_mem_cons, List.not_mem_nil, false_imp_iff, implies_true, _root_.and_true]
  refine ⟨fun x => ?_, fun x => ?_, fun x => ?_, fun x => ?_, fun x => ?_, fun x => ?_, fun x => ?_, fun x => ?_⟩
  · exact head_state arg2 arg3 arg4 arg6 X2 X3 X4 k f6 7 _ _ _ _ (k0_off15_eq k) rfl x
  · exact head_state arg2 arg3 arg4 arg6 X2 X3 X4 k f6 6 _ _ _ _ (k0_off13_eq k) rfl x
  · exact head_state arg2 arg3 arg4 arg6 X2 X3 X4 k f6 5 _ _ _ _ (k0_off11_eq k) rfl x
  · exact head_state arg2 arg3 arg4 arg6 X2 X3 X4 k f6 4 _ _ _ _ (k0_off9_eq k) rfl x
  · exact head_state arg2 arg3 arg4 arg6 X2 X3 X4 k f6 3 _ _ _ _ (k0_off7_eq k) rfl x
  · exact head_state arg2 arg3 arg4 arg6 X2 X3 X4 k f6 2 _ _ _ _ (k0_off5_eq k) rfl x
  · exact head_state arg2 arg3 arg4 arg6 X2 X3 X4 k f6 1 _ _ _ _ (k0_off3_eq k) rfl x
  · exact head_state arg2 arg3 arg4 arg6 X2 X3 X4 k f6 0 _ _ _ _ (k0_off1_eq k) rfl x

/-- One head's stored state, computed from its load. -/
theorem head_chunk (h : Fin 8) (offC : Fin 5 → ℕ) (inbC : ∀ a, offC a + S1x1x1x128x128.size a ≤ S1x8x16x128x128.size a)
    (offS : Fin 3 → ℕ) (inbS : ∀ a, offS a + S1x128x128.size a ≤ S8x128x128.size a)
    (hC : offC = ![0, h.val, 15 - k.val, 0, 0]) (hS : offS = ![h.val, 0, 0]) (x : S1x1x1x128x128.Idx) :
    k0_pay4 (View.readAt (Elt F) arg6.view (Rect.unit (s := S8x128x128) offS S1x128x128.size inbS).toLoadRect f6) x
      = (fun j : S1x8x16x128x128.Idx => cast16 (arg6.view.read (Elt F) f6) (ix3 (j 1) (j 3) (j 4)))
          ((Rect.unit (s := S1x8x16x128x128) offC S1x1x1x128x128.size inbC).emb x) := by
  rw [emb_chunk offC inbC h ⟨15 - k.val, by have := trip_lt k; omega⟩ hC x, load_slab _ f6 offS inbS h hS]
  refine congrArg _ (funext fun a => Fin.ext ?_)
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  fin_cases a
  · exact h0
  · exact h1
  · exact h2
  · rfl
  · rfl

/-- What one trip's stores into the block of states agree with, store by store. -/
theorem chunk_pieces : ∀ p ∈ (trip_k0_t1 (F := F) 𝒱 c bd i arg2 harg2 arg3 harg3 arg4 harg4 arg5 harg5 arg6 harg6 X2 X3 X4 k).1 f5 f6,
    ∀ x : p.1.shape.Idx,
    p.2 x = (fun j : S1x8x16x128x128.Idx => cast16 (arg6.view.read (Elt F) f6) (ix3 (j 1) (j 3) (j 4))) (p.1.emb x) := by
  unfold trip_k0_t1
  dsimp only
  sl_unfold_run_names
  simp only [List.forall_mem_cons, List.not_mem_nil, false_imp_iff, implies_true, _root_.and_true]
  refine ⟨fun x => ?_, fun x => ?_, fun x => ?_, fun x => ?_, fun x => ?_, fun x => ?_, fun x => ?_, fun x => ?_⟩
  · exact head_chunk arg6 k f6 7 _ _ _ _ (k0_off16_eq k) rfl x
  · exact head_chunk arg6 k f6 6 _ _ _ _ (k0_off14_eq k) rfl x
  · exact head_chunk arg6 k f6 5 _ _ _ _ (k0_off12_eq k) rfl x
  · exact head_chunk arg6 k f6 4 _ _ _ _ (k0_off10_eq k) rfl x
  · exact head_chunk arg6 k f6 3 _ _ _ _ (k0_off8_eq k) rfl x
  · exact head_chunk arg6 k f6 2 _ _ _ _ (k0_off6_eq k) rfl x
  · exact head_chunk arg6 k f6 1 _ _ _ _ (k0_off4_eq k) rfl x
  · exact head_chunk arg6 k f6 0 _ _ _ _ (k0_off2_eq k) rfl x
/-- Every coordinate of the states is stored by the trip. -/
theorem state_cover (y : S8x128x128.Idx) :
    ∃ p ∈ (trip_k0_t1 (F := F) 𝒱 c bd i arg2 harg2 arg3 harg3 arg4 harg4 arg5 harg5 arg6 harg6 X2 X3 X4 k).2.1 f5 f6, y ∈ p.1.set := by
  have key : ∀ h : Fin 8, ∀ (off : Fin 3 → ℕ) (inb : ∀ a, off a + S1x128x128.size a ≤ S8x128x128.size a), off = ![h.val, 0, 0] → y 0 = h →
      y ∈ (Rect.unit (s := S8x128x128) off S1x128x128.size inb).set := fun h off inb hoff hy =>
    mem_of_emb _ _ (ix3 0 (y 1) (y 2)) ((emb_slab off inb h hoff _).trans (by subst hy; funext a; fin_cases a <;> rfl))
  unfold trip_k0_t1
  dsimp only
  simp only [List.exists_mem_cons_iff, List.not_mem_nil, _root_.false_and, exists_false, _root_.or_false]
  have hy : (y 0).val < 8 := (y 0).isLt
  by_cases h7 : (y 0).val = 7
  · exact .inl (key 7 _ _ rfl (Fin.ext h7))
  by_cases h6 : (y 0).val = 6
  · exact .inr (.inl (key 6 _ _ rfl (Fin.ext h6)))
  by_cases h5 : (y 0).val = 5
  · exact .inr (.inr (.inl (key 5 _ _ rfl (Fin.ext h5))))
  by_cases h4 : (y 0).val = 4
  · exact .inr (.inr (.inr (.inl (key 4 _ _ rfl (Fin.ext h4)))))
  by_cases h3 : (y 0).val = 3
  · exact .inr (.inr (.inr (.inr (.inl (key 3 _ _ rfl (Fin.ext h3))))))
  by_cases h2 : (y 0).val = 2
  · exact .inr (.inr (.inr (.inr (.inr (.inl (key 2 _ _ rfl (Fin.ext h2)))))))
  by_cases h1 : (y 0).val = 1
  · exact .inr (.inr (.inr (.inr (.inr (.inr (.inl (key 1 _ _ rfl (Fin.ext h1))))))))
  · exact .inr (.inr (.inr (.inr (.inr (.inr (.inr (key 0 _ _ rfl (Fin.ext (show (y 0).val = 0 by omega)))))))))

/-- The chunk the trip stores, at every head. -/
theorem chunk_cover (y : S1x8x16x128x128.Idx) (hq : (y 2).val = 15 - k.val) :
    ∃ p ∈ (trip_k0_t1 (F := F) 𝒱 c bd i arg2 harg2 arg3 harg3 arg4 harg4 arg5 harg5 arg6 harg6 X2 X3 X4 k).1 f5 f6, y ∈ p.1.set := by
  have key : ∀ h : Fin 8, ∀ (off : Fin 5 → ℕ) (inb : ∀ a, off a + S1x1x1x128x128.size a ≤ S1x8x16x128x128.size a),
      off = ![0, h.val, 15 - k.val, 0, 0] → y 1 = h → y ∈ (Rect.unit (s := S1x8x16x128x128) off S1x1x1x128x128.size inb).set :=
    fun h off inb hoff hy => mem_of_emb _ _ (ix5 0 0 0 (y 3) (y 4)) ((emb_chunk off inb h (y 2) (hoff.trans (by rw [hq])) _).trans (by
      subst hy; funext a
      have h0 : y 0 = (0 : Fin 1) := Fin.ext (by have : (y 0).val < 1 := (y 0).isLt; show (y 0).val = 0; omega)
      fin_cases a
      · exact h0.symm
      all_goals rfl))
  unfold trip_k0_t1
  dsimp only
  simp only [List.exists_mem_cons_iff, List.not_mem_nil, _root_.false_and, exists_false, _root_.or_false]
  have hy : (y 1).val < 8 := (y 1).isLt
  by_cases h7 : (y 1).val = 7
  · exact .inl (key 7 _ _ (k0_off16_eq k) (Fin.ext h7))
  by_cases h6 : (y 1).val = 6
  · exact .inr (.inl (key 6 _ _ (k0_off14_eq k) (Fin.ext h6)))
  by_cases h5 : (y 1).val = 5
  · exact .inr (.inr (.inl (key 5 _ _ (k0_off12_eq k) (Fin.ext h5))))
  by_cases h4 : (y 1).val = 4
  · exact .inr (.inr (.inr (.inl (key 4 _ _ (k0_off10_eq k) (Fin.ext h4)))))
  by_cases h3 : (y 1).val = 3
  · exact .inr (.inr (.inr (.inr (.inl (key 3 _ _ (k0_off8_eq k) (Fin.ext h3))))))
  by_cases h2 : (y 1).val = 2
  · exact .inr (.inr (.inr (.inr (.inr (.inl (key 2 _ _ (k0_off6_eq k) (Fin.ext h2)))))))
  by_cases h1 : (y 1).val = 1
  · exact .inr (.inr (.inr (.inr (.inr (.inr (.inl (key 1 _ _ (k0_off4_eq k) (Fin.ext h1))))))))
  · exact .inr (.inr (.inr (.inr (.inr (.inr (.inr (key 0 _ _ (k0_off2_eq k) (Fin.ext (show (y 1).val = 0 by omega)))))))))

/-- No other chunk is stored. -/
theorem chunk_apart (y : S1x8x16x128x128.Idx) (hq : (y 2).val ≠ 15 - k.val) :
    ∀ p ∈ (trip_k0_t1 (F := F) 𝒱 c bd i arg2 harg2 arg3 harg3 arg4 harg4 arg5 harg5 arg6 harg6 X2 X3 X4 k).1 f5 f6, y ∉ p.1.set := by
  have key : ∀ h : Fin 8, ∀ (off : Fin 5 → ℕ) (inb : ∀ a, off a + S1x1x1x128x128.size a ≤ S1x8x16x128x128.size a),
      off = ![0, h.val, 15 - k.val, 0, 0] → y ∉ (Rect.unit (s := S1x8x16x128x128) off S1x1x1x128x128.size inb).set :=
    fun h off inb hoff hy => by
      obtain ⟨x, rfl⟩ := (Rect.unit (s := S1x8x16x128x128) off S1x1x1x128x128.size inb).exists_idx_of_mem hy
      exact hq (congrArg (fun z : S1x8x16x128x128.Idx => (z 2).val) (emb_chunk off inb h ⟨15 - k.val, by have := trip_lt k; omega⟩ hoff x))
  unfold trip_k0_t1
  dsimp only
  simp only [List.forall_mem_cons, List.not_mem_nil, false_imp_iff, implies_true, _root_.and_true]
  exact ⟨key 7 _ _ (k0_off16_eq k), key 6 _ _ (k0_off14_eq k), key 5 _ _ (k0_off12_eq k), key 4 _ _ (k0_off10_eq k), key 3 _ _ (k0_off8_eq k),
    key 2 _ _ (k0_off6_eq k), key 1 _ _ (k0_off4_eq k), key 0 _ _ (k0_off2_eq k)⟩

/-- The states after `n` trips. -/
theorem state_after (G5 : BufTy.Contents (Elt F) arg5.view.ty) (G6 : BufTy.Contents (Elt F) arg6.view.ty) : ∀ n : ℕ, n ≤ 16 →
    arg6.view.read (Elt F) (arg6.view.writes (Elt F) G6
        (pb_k0_t1 (F := F) 𝒱 c bd i arg2 harg2 arg3 harg3 arg4 harg4 arg5 harg5 arg6 harg6 X2 X3 X4 G5 G6 n).2)
      = st (arg2.view.read (Elt F) X2) (arg3.view.read (Elt F) X3) (arg4.view.read (Elt F) X4) (arg6.view.read (Elt F) G6) n
  | 0, _ => rfl
  | n + 1, hn => by
    have ih := state_after G5 G6 n (by omega)
    have e := pb_k0_t1_succ (F := F) 𝒱 c bd i arg2 harg2 arg3 harg3 arg4 harg4 arg5 harg5 arg6 harg6 X2 X3 X4 G5 G6 ⟨n, hn⟩
    dsimp only at e
    rw [e, View.writes_append]
    funext y
    rw [View.read_writes_apply_of_pieces _ _ _ _ (state_pieces 𝒱 c bd i arg2 harg2 arg3 harg3 arg4 harg4 arg5 harg5 arg6 harg6 X2 X3 X4 ⟨n, hn⟩ _ _) y
      (state_cover 𝒱 c bd i arg2 harg2 arg3 harg3 arg4 harg4 arg5 harg5 arg6 harg6 X2 X3 X4 ⟨n, hn⟩ _ _ y), ih]
    rfl

/-- The stored chunks after `n` trips. -/
theorem chunks_after (G5 : BufTy.Contents (Elt F) arg5.view.ty) (G6 : BufTy.Contents (Elt F) arg6.view.ty) : ∀ n : ℕ, n ≤ 16 →
    ∀ y : S1x8x16x128x128.Idx, 16 - n ≤ (y 2).val →
    arg5.view.read (Elt F) (arg5.view.writes (Elt F) G5
        (pb_k0_t1 (F := F) 𝒱 c bd i arg2 harg2 arg3 harg3 arg4 harg4 arg5 harg5 arg6 harg6 X2 X3 X4 G5 G6 n).1) y
      = hist (arg2.view.read (Elt F) X2) (arg3.view.read (Elt F) X3) (arg4.view.read (Elt F) X4) (arg6.view.read (Elt F) G6) y
  | 0, _ => fun y hy => absurd (y 2).isLt (by have : (y 2).val < 16 := (y 2).isLt; omega)
  | n + 1, hn => fun y hy => by
    have ih := chunks_after G5 G6 n (by omega)
    have hs := state_after 𝒱 c bd i arg2 harg2 arg3 harg3 arg4 harg4 arg5 harg5 arg6 harg6 X2 X3 X4 G5 G6 n (by omega)
    have e := pb_k0_t1_succ (F := F) 𝒱 c bd i arg2 harg2 arg3 harg3 arg4 harg4 arg5 harg5 arg6 harg6 X2 X3 X4 G5 G6 ⟨n, hn⟩
    dsimp only at e
    rw [e, View.writes_append]
    by_cases hq : (y 2).val = 15 - n
    · rw [View.read_writes_apply_of_pieces _ _ (fun j : S1x8x16x128x128.Idx => cast16 (arg6.view.read (Elt F) _) (ix3 (j 1) (j 3) (j 4))) _
        (chunk_pieces 𝒱 c bd i arg2 harg2 arg3 harg3 arg4 harg4 arg5 harg5 arg6 harg6 X2 X3 X4 ⟨n, hn⟩ _ _) y
        (chunk_cover 𝒱 c bd i arg2 harg2 arg3 harg3 arg4 harg4 arg5 harg5 arg6 harg6 X2 X3 X4 ⟨n, hn⟩ _ _ y hq), hs]
      unfold hist
      rw [show 15 - (y 2).val = n by omega]
    · rw [View.read_writes_apply_of_forall_not_mem _ _ _ _ (chunk_apart 𝒱 c bd i arg2 harg2 arg3 harg3 arg4 harg4 arg5 harg5 arg6 harg6 X2 X3 X4 ⟨n, hn⟩ _ _ y hq)]
      exact ih y (by omega)

end Trip

/-- A state stored whole, read back. -/
theorem read_whole (arg6 : Memref sig .tc .vmem S8x128x128 .f32) (f : BufTy.Contents (Elt F) arg6.view.ty) (S : Vec F S8x128x128 .f32) :
    arg6.view.read (Elt F) (arg6.view.writes (Elt F) f
        [⟨Rect.unit (s := S8x128x128) ![0, 0, 0] S8x128x128.size inb_S8x128x128_S8x128x128_0_0_0, S⟩]) = S := by
  have e : ∀ x, (Rect.unit (s := S8x128x128) ![0, 0, 0] S8x128x128.size inb_S8x128x128_S8x128x128_0_0_0).emb x = x := fun x =>
    funext fun a => Fin.ext (by fin_cases a <;> exact (Nat.zero_add _).trans (Nat.one_mul _))
  funext y
  have h := View.read_writes_cons_emb arg6.view f (Rect.unit (s := S8x128x128) ![0, 0, 0] S8x128x128.size inb_S8x128x128_S8x128x128_0_0_0) S [] y
  rwa [e] at h

/-- The zeros a resetting point stores first, read back. -/
theorem read_zero (arg6 : Memref sig .tc .vmem S8x128x128 .f32) :
    arg6.view.read (Elt F) (arg6.view.writes (Elt F) arg6.view.junk
        [⟨Rect.unit (s := S8x128x128) ![0, 0, 0] S8x128x128.size inb_S8x128x128_S8x128x128_0_0_0, k0_pay1⟩]) = k0_pay1 :=
  read_whole arg6 _ k0_pay1

local notation "𝕄" => MT nD τ sig Unit (Elt F) ℕ (UR sig nD τ) ℕ

set_option maxHeartbeats 1000000 in
/-- The body at a point that resets the state: run from zeros. -/
theorem body_reset (c : Dev nD) (i : grid0.Coords) (arg2 : Memref sig .tc .vmem S1x8x1024x128 .bf16) (harg2 : arg2.IsWhole) (arg3 : Memref sig .tc .vmem S1x8x1024x128 .f32) (harg3 : arg3.IsWhole) (arg4 : Memref sig .tc .vmem S1x8x1024x128 .bf16) (harg4 : arg4.IsWhole) (arg5 : Memref sig .tc .vmem S1x8x16x128x128 .bf16) (harg5 : arg5.IsWhole) (arg6 : Memref sig .tc .vmem S8x128x128 .f32) (harg6 : arg6.IsWhole) (hc0 : cond0_0 i)
    (x0 : Vec F S1x8x1024x128 .bf16) (x1 : Vec F S1x8x1024x128 .f32) (x2 : Vec F S1x8x1024x128 .bf16) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (hist x0 x1 x2 k0_pay1) ∗ owns (c : Thread nD τ) arg6 fullShare (st x0 x1 x2 k0_pay1 16)) -∗ K ⟨⟩))
          ⊢ wp frame (wpE (defs₀ (F := F)) Variants.none c none) E (cc0_hgrn_bwd_scan i arg2 harg2 arg3 harg3 arg4 harg4 arg5 harg5 arg6 harg6) K := by
    simp only [cc0_hgrn_bwd_scan_eq_skeleton]; unfold cc0_hgrn_bwd_scan_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      funext y
      refine (chunks_after Variants.none c none i arg2 harg2 arg3 harg3 arg4 harg4 arg5 harg5 arg6 harg6 _ _ _ _ _ 16 le_rfl y (by omega)).trans ?_
      rw [hf0, hf1, hf2]
      refine congrArg (fun S => hist x0 x1 x2 S y) ?_
      sl_unfold_run_names
      exact read_zero arg6
    · iexists _; isplitr
      swap; · iexact HS0
      ipureintro
      rw [View.writes_append]
      refine (state_after Variants.none c none i arg2 harg2 arg3 harg3 arg4 harg4 arg5 harg5 arg6 harg6 _ _ _ _ _ 16 le_rfl).trans ?_
      rw [hf0, hf1, hf2]
      refine congrArg (fun S => st x0 x1 x2 S 16) ?_
      sl_unfold_run_names
      exact read_zero arg6
set_option maxHeartbeats 1000000 in
/-- The body at a point that goes on from the state the point before left. -/
theorem body_carry (c : Dev nD) (i : grid0.Coords) (arg2 : Memref sig .tc .vmem S1x8x1024x128 .bf16) (harg2 : arg2.IsWhole) (arg3 : Memref sig .tc .vmem S1x8x1024x128 .f32) (harg3 : arg3.IsWhole) (arg4 : Memref sig .tc .vmem S1x8x1024x128 .bf16) (harg4 : arg4.IsWhole) (arg5 : Memref sig .tc .vmem S1x8x16x128x128 .bf16) (harg5 : arg5.IsWhole) (arg6 : Memref sig .tc .vmem S8x128x128 .f32) (harg6 : arg6.IsWhole) (hc0 : ¬cond0_0 i)
    (x0 : Vec F S1x8x1024x128 .bf16) (x1 : Vec F S1x8x1024x128 .f32) (x2 : Vec F S1x8x1024x128 .bf16) (xs : Vec F S8x128x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare (hist x0 x1 x2 xs) ∗ owns (c : Thread nD τ) arg6 fullShare (st x0 x1 x2 xs 16)) -∗ K ⟨⟩))
          ⊢ wp frame (wpE (defs₀ (F := F)) Variants.none c none) E (cc0_hgrn_bwd_scan i arg2 harg2 arg3 harg3 arg4 harg4 arg5 harg5 arg6 harg6) K := by
    simp only [cc0_hgrn_bwd_scan_eq_skeleton]; unfold cc0_hgrn_bwd_scan_skel
    unfold owns
    iintro ⟨⟨%f0, %hf0, H0⟩, ⟨%f1, %hf1, H1⟩, ⟨%f2, %hf2, H2⟩, ⟨%d3, %f3, -, H3⟩, ⟨%fs0, %hs0, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      funext y
      refine (chunks_after Variants.none c none i arg2 harg2 arg3 harg3 arg4 harg4 arg5 harg5 arg6 harg6 _ _ _ _ _ 16 le_rfl y (by omega)).trans ?_
      rw [hf0, hf1, hf2, hs0]
    · iexists _; isplitr
      swap; · iexact HS0
      ipureintro
      refine (state_after Variants.none c none i arg2 harg2 arg3 harg3 arg4 harg4 arg5 harg5 arg6 harg6 _ _ _ _ _ 16 le_rfl).trans ?_
      rw [hf0, hf1, hf2, hs0]
variable (m : (ℓ : Loc nD τ sig) → Buf (Elt F) ℓ) (ρ : Dev nD → PrngReg)

/-- The state point `n` leaves: each half of the heads starts from zeros, its later points from what the point before left. -/
def left (c : Dev nD) : (n : ℕ) → n < cfg0.N → Vec F S8x128x128 .f32
  | 0, h => st (iblk m c 0 ⟨0, h⟩) (iblk m c 1 ⟨0, h⟩) (iblk m c 2 ⟨0, h⟩) k0_pay1 16
  | n + 1, h => st (iblk m c 0 ⟨n + 1, h⟩) (iblk m c 1 ⟨n + 1, h⟩) (iblk m c 2 ⟨n + 1, h⟩)
      (if (n + 1) % 16 = 0 then k0_pay1 else left c n (by omega)) 16

/-- The state point `n` starts from. -/
def start (c : Dev nD) : (n : ℕ) → n < cfg0.N → Vec F S8x128x128 .f32
  | 0, _ => k0_pay1
  | n + 1, h => if (n + 1) % 16 = 0 then k0_pay1 else left m c n (by omega)

theorem left_eq (c : Dev nD) (n : ℕ) (h : n < cfg0.N) :
    left m c n h = st (iblk m c 0 ⟨n, h⟩) (iblk m c 1 ⟨n, h⟩) (iblk m c 2 ⟨n, h⟩) (start m c n h) 16 := by
  cases n <;> rfl

theorem start_reset (c : Dev nD) (n : ℕ) (h : n < cfg0.N) (h0 : n % 16 = 0) : start m c n h = k0_pay1 := by
  cases n with
  | zero => rfl
  | succ n => exact if_pos h0

theorem start_carry (c : Dev nD) (n : ℕ) (h : n < cfg0.N) (h0 : ¬n % 16 = 0) : start m c n h = left m c (n - 1) (by omega) := by
  cases n with
  | zero => exact absurd rfl h0
  | succ n => exact if_neg h0

/-- The block of stored states point `t` leaves. -/
def block (c : Dev nD) (t : Fin cfg0.N) : Vec F S1x8x16x128x128 .bf16 :=
  hist (iblk m c 0 t) (iblk m c 1 t) (iblk m c 2 t) (start m c t.val t.isLt)

/-- The invariant between points: the carried state at what the last point left, at anything before the first. -/
def inv (c : Dev nD) : (n : ℕ) → n ≤ cfg0.N → sProp 𝕄
  | 0, _ => Pipeline.ΦA spec0 c
  | n + 1, h => iprop(owns (c : Thread nD τ) scM0_0 fullShare (left m c n h) ∗ (∃ r, prngReg c r))

theorem inv_pos (c : Dev nD) (n : ℕ) (h : n ≤ cfg0.N) (hz : n ≠ 0) :
    inv m c n h = iprop(owns (c : Thread nD τ) scM0_0 fullShare (left m c (n - 1) (by omega)) ∗ (∃ r, prngReg c r)) := by
  cases n with
  | zero => exact absurd rfl hz
  | succ n => rfl

/-- The launch's proof data. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) : (dats m 0 c).Φ t.castSucc = inv m c t.val (Nat.le_of_lt t.isLt) := by
  dsimp only [dats]; exact Pipeline.Dat.Φ_castSucc (inv m c) t

theorem after_keys (c : Dev nD) (t : Fin cfg0.N) : (dats m 0 c).after 0 t = iblk m c 0 t := by dsimp only [dats]
theorem after_gates (c : Dev nD) (t : Fin cfg0.N) : (dats m 0 c).after 1 t = iblk m c 1 t := by dsimp only [dats]
theorem after_values (c : Dev nD) (t : Fin cfg0.N) : (dats m 0 c).after 2 t = iblk m c 2 t := by dsimp only [dats]
theorem after_states (c : Dev nD) (t : Fin cfg0.N) : (dats m 0 c).after 3 t = block m c t := by dsimp only [dats]

theorem before_keys (c : Dev nD) (t : Fin cfg0.N) (d) : (dats m 0 c).before 0 t d = iblk m c 0 t :=
  before0_0_of m (dats m 0 c) (A_eq m c 0) (after_keys m c) t d
theorem before_gates (c : Dev nD) (t : Fin cfg0.N) (d) : (dats m 0 c).before 1 t d = iblk m c 1 t :=
  before0_1_of m (dats m 0 c) (A_eq m c 1) (after_gates m c) t d
theorem before_values (c : Dev nD) (t : Fin cfg0.N) (d) : (dats m 0 c).before 2 t d = iblk m c 2 t :=
  before0_2_of m (dats m 0 c) (A_eq m c 2) (after_values m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body at any point, from what it is called with to what it returns. -/
theorem point (c : Dev nD) (t : Fin cfg0.N) :
    pre m c t ⊢ wp frame (wpE (defs₀ (F := F)) Variants.none c none) Set.univ (bodyAt0 t) (fun _ => post m c t) := by
  unfold pre post bodyAt0
  simp only [before_keys, before_gates, before_values]
  rw [show (dats m 0 c).owesAt () t.succ = (dats m 0 c).owesAt () t.castSucc from rfl,
    after_keys, after_gates, after_values, after_states]
  rw [show (dats m 0 c).Φ t.succ = iprop(owns (c : Thread nD τ) scM0_0 fullShare (left m c t.val t.isLt) ∗ (∃ r, prngReg c r)) from rfl]
  rw [inv_at m c t, left_eq]
  unfold block
  by_cases h0 : t.val % 16 = 0
  · rw [start_reset m c _ _ h0]
    have weak : inv m c t.val (Nat.le_of_lt t.isLt) ⊢ iprop(iprop((∃ d, owns (c : Thread nD τ) scM0_0 fullShare d)) ∗ (∃ r, prngReg c r)) := by
      by_cases hz : t.val = 0
      · rw [← PhiA0_eq]
        have e : ∀ n (hn : n ≤ cfg0.N), n = 0 → inv m c n hn = Pipeline.ΦA spec0 c := by rintro _ _ rfl; rfl
        rw [e _ _ hz]
      · rw [inv_pos m c _ _ hz]
        iintro ⟨HS, Hg⟩
        isplitl [HS]
        · iexists _; iexact HS
        iexact Hg
    iintro ⟨HI, Ho, ⟨%d0, H0⟩, ⟨%d1, H1⟩, ⟨%d2, H2⟩, ⟨%d3, H3⟩⟩
    ihave HI := weak $$ HI
    icases HI with ⟨HS, Hg⟩
    iapply (body_reset c (grid0.coords t) _ _ _ _ _ _ _ _ _ _ ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · have hz : t.val ≠ 0 := fun h => h0 (by rw [h])
    rw [start_carry m c _ _ h0, inv_pos m c _ _ hz]
    iintro ⟨⟨HS, Hg⟩, Ho, ⟨%d0, H0⟩, ⟨%d1, H1⟩, ⟨%d2, H2⟩, ⟨%d3, H3⟩⟩
    iapply (body_carry c (grid0.coords t) _ _ _ _ _ _ _ _ _ _ (fun h => h0 ((hcond0_0 t).mp h)) (iblk m c 0 t) (iblk m c 1 t) (iblk m c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3

theorem body_row (t : Fin cfg0.N) : defs₀ (F := F) .tc cfg0.body (cfg0.bodyArgs t (cfg0.slots t)) = bodyAt0 t := by
  unfold defs₀; rw [Defs.onTc_tc]

/-- The pipeline's obligation at every point. -/
theorem obligation (c : Dev nD) : Pipeline.BodyObligation (dats (F := F) m 0 c) (defs₀ (F := F)) Variants.none () Set.univ := fun t => by
  rw [bigSep_W0, bigSep_W0, body_row]
  exact triple_restated (point m c t) rfl .rfl fun _ => .rfl

theorem inv_in (c : Dev nD) : Pipeline.ΦA spec0 c ⊢ (dats m 0 c).Φ 0 := Idealize.SL.BI.Entails.refl _

theorem inv_out (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have : cfg0.N = 32 := N_0; omega), PhiA0_eq]
  iintro ⟨HS, Hg⟩
  isplitl [HS]
  · iexists _; iexact HS
  iexact Hg

set_option backward.isDefEq.respectTransparency.types false in
/-- The launch: every array of the pipeline ends at what the proof data says, and every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The program terminates, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launch m ρ)))
    ((θ_run defs _ _).mono (fun _ h => h.2) (launch m ρ))

/-- The same run with the result named: the array of states, and the arguments unchanged. -/
theorem run : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩)
    (launch m ρ)

end Cert.Kernel.Scan

end
-- ==== Proof.ScanIdeal.lean ====
/- The scan's program read over the extended reals is the program of the compiled kernel word for word, so its run is the one
   proved once for both. -/
module

public import proofs.«01_k».proof.Defs
public import proofs.«01_k».proof.Proof.Scan
public import proofs.«01_k».proof.Proof.Gen.KernelIdeal

@[expose] public section

set_option maxRecDepth 16384

noncomputable section

namespace Cert.Kernel.Scan

open Idealize.ShloMosaic Idealize.ShloMosaic.TcCoe Idealize.SL.Sem

variable {F : FTy → Type} [FloatOps F]

/-- The two programs' body tables agree. -/
theorem bodies_eq : Cert.KernelIdeal.defs₀ (F := F) = Cert.Kernel.defs₀ (F := F) := by
  unfold Cert.KernelIdeal.defs₀ Cert.Kernel.defs₀
  refine congrArg (Defs.onTc (nD := Cert.Kernel.nD) (τ := Cert.Kernel.τ) (sig := Cert.Kernel.sig) (Λ := Cert.Kernel.Λ₀)) ?_
  funext l x
  match l, x with
  | 0, (t, s) => rfl

theorem defs_eq : Cert.KernelIdeal.defs (F := F) = Cert.Kernel.defs (F := F) := by
  unfold Cert.KernelIdeal.defs Cert.Kernel.defs
  rw [bodies_eq]
  rfl

/-- The idealized scan terminates, its arguments end unchanged and every counter ends at zero. -/
theorem frame_ideal : Cert.quiescent_KernelIdeal := fun m ρ _ => by
  rw [defs_eq]
  exact frame (F := Ideal) m ρ

/-- The idealized scan's run with its result named. -/
theorem run_ideal (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r => ∀ c : Dev Cert.KernelIdeal.nD,
      r.2.mem ((c : Thread Cert.KernelIdeal.nD Cert.KernelIdeal.τ).loc Cert.KernelIdeal.main_v0) = (dats m 0 c).arrAt 3 Cert.Kernel.cfg0.N
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2) := by
  rw [defs_eq]
  exact run m ρ

end Cert.Kernel.Scan

end
-- ==== Proof.ScanRef.lean ====
/- The backward state recurrence written plainly: what the reference program leaves in its result, as one recursion over the
   256 chunks of 64 positions, last chunk first. -/
module

public import proofs.«01_k».proof.Proof.Gen.ReferenceIdeal.Run
public import Idealize.ShloMosaic.Lib.Pipeline.ValueKit
public import Idealize.ShloMosaic.Lib.DynamicIndex

@[expose] public section

set_option maxRecDepth 16384

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value

/-- `2 ^ x` is the base-2 exponential at every extended real. -/
theorem pow_two (x : EReal) : Ideal.pow 2 x = Ideal.exp2 x := by
  induction x with
  | bot => show Ideal.pow ((2 : ℝ) : EReal) ⊥ = _; rw [Ideal.pow_coe_bot, if_neg (by norm_num), if_pos (by norm_num)]; rfl
  | top => show Ideal.pow ((2 : ℝ) : EReal) ⊤ = _; rw [Ideal.pow_coe_top, if_neg (by norm_num), if_pos (by norm_num)]; rfl
  | coe r => rfl

/-- The word of the number two. -/
theorem word_two : Ideal.ofBits .f32 0x40000000#32 = (2 : EReal) := by
  simp [Ideal.ofBits, Ideal.ieee, -EReal.coe_mul]; norm_num; rfl

/-- The three arrays cut into chunks, last chunk first: at chunk `j`, row `s`. -/
abbrev Chunks := FVec Ideal S256x2x8x64x128 .f32

/-- The state after one more chunk. -/
def next (K C W : Chunks) (j : Fin 256) (S : FVec Ideal S2x8x128x128 .f32) : FVec Ideal S2x8x128x128 .f32 := fun i =>
  Ideal.exp2 (C (ix5 j (i 0) (i 1) 63 (i 2))) * S i
    + ∑ s : Fin 64, K (ix5 j (i 0) (i 1) s (i 2)) * Ideal.exp2 (C (ix5 j (i 0) (i 1) 63 (i 2)) - C (ix5 j (i 0) (i 1) s (i 2))) * W (ix5 j (i 0) (i 1) s (i 3))

/-- The word at a loop's counter, read signed. -/
theorem start_eq (j : ℕ) (hj : j < 256) : ∀ k : Fin 5,
    BitVec.toInt ((![constantI S_ 32 (BitVec.ofNat 32 j), constantI S_ 32 0#32, constantI S_ 32 0#32, constantI S_ 32 0#32,
      constantI S_ 32 0#32] : Fin 5 → (⟨S_, .i32⟩ : BufTy).Contents (Elt Ideal)) k (Shape.Idx.first h_S_))
      = ((![j, 0, 0, 0, 0] : Fin 5 → ℕ) k : ℤ) := by
  intro k
  fin_cases k
  · show (BitVec.ofNat 32 j).toInt = (j : ℤ)
    rw [BitVec.toInt_eq_toNat_of_lt (by rw [BitVec.toNat_ofNat, Nat.mod_eq_of_lt (by omega)]; omega), BitVec.toNat_ofNat, Nat.mod_eq_of_lt (by omega)]
  all_goals rfl

/-- One chunk taken out of its array, as the loop takes it. -/
def chunk (X : Chunks) (j : ℕ) : FVec Ideal S2x8x64x128 .f32 :=
  shapeCast S2x8x64x128 (Host.dynamicSlice S1x2x8x64x128 X (fun k => BitVec.toInt ((![constantI S_ 32 (BitVec.ofNat 32 j), constantI S_ 32 0#32,
      constantI S_ 32 0#32, constantI S_ 32 0#32, constantI S_ 32 0#32] : Fin 5 → (⟨S_, .i32⟩ : BufTy).Contents (Elt Ideal)) k (Shape.Idx.first h_S_)))
      sliceFits_S256x2x8x64x128_S1x2x8x64x128) shapeCasts_S1x2x8x64x128_S2x8x64x128

/-- The chunk's entries are the array's. -/
theorem chunk_eq (X : Chunks) (j : ℕ) (hj : j < 256) : chunk X j = fun i => X (ix5 ⟨j, hj⟩ (i 0) (i 1) (i 2) (i 3)) := by
  unfold chunk
  rw [Host.dynamicSlice_eq_extractStridedSlice S1x2x8x64x128 X _ ![j, 0, 0, 0, 0] _
    ⟨rfl, fun a => by fin_cases a <;> simp <;> omega⟩ (start_eq j hj)]
  funext i
  pointwise []

/-- What one trip makes of the state, from the three chunks it takes. -/
def update (k c w : FVec Ideal S2x8x64x128 .f32) (S : FVec Ideal S2x8x128x128 .f32) : FVec Ideal S2x8x128x128 .f32 :=
  addf
        (mulf
          (broadcastInDim S2x8x128x128 ![0, 1, 2, 3] bcast_S2x8x128x1_S2x8x128x128_0_1_2_3
            (broadcastInDim S2x8x128x1 ![0, 1, 2] bcast_S2x8x128_S2x8x128x1_0_1_2
              (Host.powf (broadcastInDim S2x8x128 ![] bcast_S_S2x8x128 (constant S_ FTy.f32 1073741824#32))
                (shapeCast S2x8x128
                  (extractStridedSlice S2x8x1x128 ![0, 0, 63, 0] c slices_S2x8x64x128_S2x8x1x128_0_0_63_0)
                  shapeCasts_S2x8x1x128_S2x8x128))))
          S)
        (Host.dotGeneral dot_S2x8x64x128_S2x8x64x128_S2x8x128x128_2_2_3_3_01_01 none
          (mulf k
            (Host.powf (broadcastInDim S2x8x64x128 ![] bcast_S_S2x8x64x128 (constant S_ FTy.f32 1073741824#32))
              (subf
                (broadcastInDim S2x8x64x128 ![0, 1, 2, 3] bcast_S2x8x1x128_S2x8x64x128_0_1_2_3
                  (extractStridedSlice S2x8x1x128 ![0, 0, 63, 0] c slices_S2x8x64x128_S2x8x1x128_0_0_63_0))
                c)))
          w)

/-- The state's new entries. -/
theorem update_apply (k c w : FVec Ideal S2x8x64x128 .f32) (S : FVec Ideal S2x8x128x128 .f32) (i : S2x8x128x128.Idx) :
    update k c w S i = Ideal.exp2 (c (ix4 (i 0) (i 1) 63 (i 2))) * S i
    + ∑ s : Fin 64, k (ix4 (i 0) (i 1) s (i 2)) * Ideal.exp2 (c (ix4 (i 0) (i 1) 63 (i 2)) - c (ix4 (i 0) (i 1) s (i 2))) * w (ix4 (i 0) (i 1) s (i 3)) := by
  unfold update
  pointwise []
  simp only [word_two, pow_two]

/-- One matrix written into the stack. -/
theorem put_eq (H : FVec Ideal S256x2x8x128x128 .f32) (S : FVec Ideal S2x8x128x128 .f32) (j : ℕ) (hj : j < 256) :
    Host.dynamicUpdateSlice H (broadcastInDim S1x2x8x128x128 ![1, 2, 3, 4] bcast_S2x8x128x128_S1x2x8x128x128_1_2_3_4 S)
      (fun k => BitVec.toInt ((![constantI S_ 32 (BitVec.ofNat 32 j), constantI S_ 32 0#32,
      constantI S_ 32 0#32, constantI S_ 32 0#32, constantI S_ 32 0#32] : Fin 5 → (⟨S_, .i32⟩ : BufTy).Contents (Elt Ideal)) k (Shape.Idx.first h_S_)))
      updateFits_S256x2x8x128x128_S1x2x8x128x128
      = (fun i => if (i 0).val = j then S (ix4 (i 1) (i 2) (i 3) (i 4)) else H i : FVec Ideal S256x2x8x128x128 .f32) := by
  refine (Host.dynamicUpdateSlice_eq_updateSlice H (broadcastInDim S1x2x8x128x128 ![1, 2, 3, 4] bcast_S2x8x128x128_S1x2x8x128x128_1_2_3_4 S)
    _ updateFits_S256x2x8x128x128_S1x2x8x128x128 ![j, 0, 0, 0, 0]
    (fun a => by
      refine (congrArg (fun z : ℤ => (min (max z 0) ((S256x2x8x128x128.size a - S1x2x8x128x128.size a : ℕ) : ℤ)).toNat) (start_eq j hj a)).trans ?_
      fin_cases a <;> simp <;> omega) ⟨rfl, fun a => by fin_cases a <;> simp <;> omega⟩).trans ?_
  funext i
  pointwise []
  by_cases e : (i 0).val = j
  · rw [if_pos e, dif_pos ⟨by omega, by omega⟩]
  · rw [if_neg e, dif_neg (by omega)]

variable (V0 : Valuation τ sig (Elt Ideal)) (K C W : Chunks) (S : FVec Ideal S2x8x128x128 .f32) (H : FVec Ideal S256x2x8x128x128 .f32) (j : ℕ)

/-- The loop's buffers before trip `j`. -/
structure Holds : Prop where
  keys : V0 (Proc.devRef .tc main_v13_0) = K
  gates : V0 (Proc.devRef .tc main_v13_1) = C
  values : V0 (Proc.devRef .tc main_v13_2) = W
  num : V0 (Proc.devRef .tc main_v13_3) = constantI S_ 32 (BitVec.ofNat 32 j)
  state : V0 (Proc.devRef .tc main_v13_4) = S
  stack : V0 (Proc.devRef .tc main_v13_5) = H

variable {V0 K C W S H j}

theorem state_step (h : Holds V0 K C W S H j) (hj : j < 256) : step_main_v13_4 V0 = next K C W ⟨j, hj⟩ S := by
  unfold step_main_v13_4
  unfold res_main_while0b_v18
  try unfold res_main_while0b_v20
  try unfold res_main_while0b_v18
  rw [h.keys, h.gates, h.values, h.num, h.state]
  refine Eq.trans (b := update (chunk K j) (chunk C j) (chunk W j) S) rfl ?_
  rw [chunk_eq K j hj, chunk_eq C j hj, chunk_eq W j hj]
  funext i
  rw [update_apply]
  rfl

theorem stack_step (h : Holds V0 K C W S H j) (hj : j < 256) :
    step_main_v13_5 V0 = fun i : S256x2x8x128x128.Idx => if (i 0).val = j then S (ix4 (i 1) (i 2) (i 3) (i 4)) else H i := by
  unfold step_main_v13_5
  rw [h.state, h.num, h.stack]
  exact put_eq H S j hj

/-- One trip takes what holds before it to what holds after it. -/
theorem holds_step (h : Holds V0 K C W S H j) (hj : j < 256) :
    Holds (STEP V0) K C W (next K C W ⟨j, hj⟩ S) (fun i : S256x2x8x128x128.Idx => if (i 0).val = j then S (ix4 (i 1) (i 2) (i 3) (i 4)) else H i) (j + 1) where
  keys := (STEP_main_v13_0 V0).trans h.keys
  gates := (STEP_main_v13_1 V0).trans h.gates
  values := (STEP_main_v13_2 V0).trans h.values
  num := (STEP_main_v13_3 V0).trans (by
    unfold step_main_v13_3; rw [h.num]; funext i
    show BitVec.ofNat 32 j + 1#32 = BitVec.ofNat 32 (j + 1)
    rw [BitVec.ofNat_add])
  state := (STEP_main_v13_4 V0).trans (state_step h hj)
  stack := (STEP_main_v13_5 V0).trans (stack_step h hj)

/-- The state before chunk `k`. -/
def st (K C W : Chunks) : ℕ → FVec Ideal S2x8x128x128 .f32
  | 0 => fun _ => 0
  | k + 1 => if hk : k < 256 then next K C W ⟨k, hk⟩ (st K C W k) else st K C W k

/-- The stack after `k` chunks: the states before them, zero above. -/
def stack (K C W : Chunks) (k : ℕ) : FVec Ideal S256x2x8x128x128 .f32 := fun i =>
  if (i 0).val < k then st K C W (i 0).val (ix4 (i 1) (i 2) (i 3) (i 4)) else 0

theorem stack_succ (K C W : Chunks) (k : ℕ) :
    stack K C W (k + 1) = fun i : S256x2x8x128x128.Idx => if (i 0).val = k then st K C W k (ix4 (i 1) (i 2) (i 3) (i 4)) else stack K C W k i := by
  funext i
  unfold stack
  by_cases e : (i 0).val = k
  · rw [if_pos e, if_pos (by omega), e]
  · rw [if_neg e]
    by_cases l : (i 0).val < k
    · rw [if_pos l, if_pos (by omega)]
    · rw [if_neg l, if_neg (by omega)]

/-- An argument reversed along the sequence and cut into chunks. -/
def cut (X : FVec Ideal S2x8x16384x128 .f32) : Chunks :=
  transpose S256x2x8x64x128 [2, 0, 1, 3, 4] (shapeCast S2x8x256x64x128 (Host.reverse [2] X) shapeCasts_S2x8x16384x128_S2x8x256x64x128)
    transposes_S2x8x256x64x128_S256x2x8x64x128_2_0_1_3_4

/-- Row `s` of chunk `j` is row `16383 - 64 j - s` of the sequence. -/
theorem cut_apply (X : FVec Ideal S2x8x16384x128 .f32) (j : Fin 256) (b : Fin 2) (h : Fin 8) (s : Fin 64) (d : Fin 128) :
    cut X (ix5 j b h s d) = X (ix4 b h ⟨16383 - 64 * j.val - s.val, by omega⟩ d) := by
  unfold cut
  pointwise []
  refine Eq.trans (b := X (ix4 b h (Fin.rev ⟨j.val * 64 + s.val, by omega⟩) d)) rfl ?_
  congr 2
  ext
  simp only [Fin.val_rev]
  omega

variable (m : (ℓ : Loc nD τ sig) → Buf (Elt Ideal) ℓ)

abbrev keys (c : Dev nD) : Chunks := cut (extf .f32 (m ((c.tc : Thread nD τ).loc main_arg0) : FVec Ideal S2x8x16384x128 .bf16) bitsLt_bf16_f32)
abbrev gates (c : Dev nD) : Chunks := cut (m ((c.tc : Thread nD τ).loc main_arg1) : FVec Ideal S2x8x16384x128 .f32)
abbrev values (c : Dev nD) : Chunks := cut (extf .f32 (m ((c.tc : Thread nD τ).loc main_arg2) : FVec Ideal S2x8x16384x128 .bf16) bitsLt_bf16_f32)

set_option maxRecDepth 65536 in
set_option maxHeartbeats 300000 in
/-- What the loop starts from. -/
theorem entry_holds (c : Dev nD) : Holds (entryContents preI m c) (keys m c) (gates m c) (values m c)
    (broadcastInDim S2x8x128x128 ![] bcast_S_S2x8x128x128 (constant S_ .f32 0x00000000#32))
    (broadcastInDim S256x2x8x128x128 ![] bcast_S_S256x2x8x128x128 (constant S_ .f32 0x00000000#32)) 0 := by
  constructor <;> (simp only [entryContents, afterL_cons, afterL_nil]; after_reads_simp) <;> rfl

/-- What holds after `k` chunks. -/
theorem iter_holds (c : Dev nD) : ∀ k ≤ 256, Holds (STEP^[k] (entryContents preI m c)) (keys m c) (gates m c) (values m c)
    (st (keys m c) (gates m c) (values m c) k) (stack (keys m c) (gates m c) (values m c) k) k
  | 0, _ => by
    rw [Function.iterate_zero, id_eq]
    have h := entry_holds m c
    have e : (broadcastInDim S2x8x128x128 ![] bcast_S_S2x8x128x128 (constant S_ .f32 0x00000000#32) : FVec Ideal S2x8x128x128 .f32) = fun _ => 0 := by
      funext i; pointwise []
    have e' : (broadcastInDim S256x2x8x128x128 ![] bcast_S_S256x2x8x128x128 (constant S_ .f32 0x00000000#32) : FVec Ideal S256x2x8x128x128 .f32)
        = stack (keys m c) (gates m c) (values m c) 0 := by
      funext i; unfold stack; rw [if_neg (by omega)]; pointwise []
    rw [e, e'] at h
    exact h
  | k + 1, hk => by
    rw [Function.iterate_succ_apply', stack_succ]
    have h := holds_step (iter_holds c k (by omega)) (by omega)
    rw [show st (keys m c) (gates m c) (values m c) (k + 1) = next (keys m c) (gates m c) (values m c) ⟨k, by omega⟩ (st (keys m c) (gates m c) (values m c) k) from
      dif_pos (by omega)]
    exact h

theorem stack_full (K C W : Chunks) (i : S2x8x256x128x128.Idx) :
    stack K C W 256 (ix5 (Fin.rev (n := 256) (i 2)) (i 0) (i 1) (i 4) (i 3)) = st K C W (255 - (i 2).val) (ix4 (i 0) (i 1) (i 4) (i 3)) := by
  have hn : (i 2).val < 256 := (i 2).isLt
  have e : (Fin.rev (n := 256) (i 2)).val = 255 - (i 2).val := by have := Fin.val_rev (n := 256) (i 2); omega
  unfold stack
  refine (if_pos (show (Fin.rev (n := 256) (i 2)).val < 256 from Fin.isLt _)).trans ?_
  exact congrArg (fun n => st K C W n (ix4 (i 0) (i 1) (i 4) (i 3))) e

/-- The formula's result of its three arrays: entry `(b, h, n, e, d)` is entry `(b, h, d, e)` of the state before chunk `255 - n`. -/
def RES (k : FVec Ideal S2x8x16384x128 .bf16) (g : FVec Ideal S2x8x16384x128 .f32) (v : FVec Ideal S2x8x16384x128 .bf16) :
    FVec Ideal S2x8x256x128x128 .bf16 := fun i =>
  st (cut (extf .f32 k bitsLt_bf16_f32)) (cut g) (cut (extf .f32 v bitsLt_bf16_f32)) (255 - (i 2).val) (ix4 (i 0) (i 1) (i 4) (i 3))

theorem out_eq (c : Dev nD) : out_main_v16 (STEP^[256] (entryContents preI m c))
    = RES (m ((c.tc : Thread nD τ).loc main_arg0)) (m ((c.tc : Thread nD τ).loc main_arg1)) (m ((c.tc : Thread nD τ).loc main_arg2)) := by
  unfold out_main_v16
  rw [(iter_holds m c 256 (le_refl _)).stack]
  funext i
  refine Eq.trans (b := (truncf .bf16 (transpose S2x8x256x128x128 [1, 2, 0, 4, 3] (Host.reverse [0] (stack (keys m c) (gates m c) (values m c) 256))
    transposes_S256x2x8x128x128_S2x8x256x128x128_1_2_0_4_3) bitsLt_bf16_f32 : FVec Ideal S2x8x256x128x128 .bf16) i) rfl ?_
  pointwise []
  exact stack_full _ _ _ i

/-- Every weakly fair execution of the reference program ends with the formula's result, the arguments as they were. -/
theorem run_result (ρ : Dev nD → PrngReg) : θ_run (defs (F := Ideal)) (onTc (τ := τ) (main (F := Ideal))) ⟨m, fun _ => 0, ρ⟩ fun r => ∀ c : Dev nD,
      r.2.mem ((c.tc : Thread nD τ).loc main_v16) = RES (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_eq m c), (h c).2⟩) (run m ρ)

end Cert.ReferenceIdeal.Scan
end
-- ==== Proof.ScanValue.lean ====
/- The backward state recurrence: what the kernel leaves in its result array is the reference's recursion of the argument
   arrays, over the extended reals. The kernel walks each sequence in sixteen blocks of 1024 positions, last block first, and
   each block in sixteen chunks, carrying the transposed state in scratch; the reference reverses the sequence and walks its
   256 chunks. -/
module

public import proofs.«01_k».proof.Proof.Scan
public import proofs.«01_k».proof.Proof.ScanRef

@[expose] public section

set_option maxRecDepth 16384

noncomputable section

namespace Cert.Kernel.Scan

open Cert.Kernel Cert.Kernel.Gen
open Idealize.ShloMosaic Idealize.ShloMosaic.TcCoe Idealize.SL.Sem
open Idealize.ShloMosaic.Pipeline (Dat)

/-- The state starts at zero. -/
theorem pay1_apply (j : S8x128x128.Idx) : k0_pay1 (F := Ideal) j = 0 := by pointwise [k0_pay1]

/-- A stored state holds the state's values. -/
theorem pay4_apply (s : FVec Ideal S1x128x128 .f32) (j : S1x1x1x128x128.Idx) : k0_pay4 (F := Ideal) s j = s (ix3 0 (j 3) (j 4)) := by
  pointwise [k0_pay4, k0_pay3]

/-- One trip's new state at one element: the old one decayed over the chunk, plus the chunk's 64 outer products. -/
theorem pay5_apply (c : FVec Ideal S1x1x64x128 .f32) (s : FVec Ideal S1x128x128 .f32) (k v : FVec Ideal S1x1x64x128 .bf16) (j : S1x128x128.Idx) :
    k0_pay5 (F := Ideal) c s k v j = s (ix3 0 (j 1) (j 2)) * Ideal.exp2 (c (ix4 0 0 0 (j 2)))
      + ∑ x : Fin 64, v (ix4 0 0 x (j 1)) * (k (ix4 0 0 x (j 2)) * Ideal.exp2 (c (ix4 0 0 0 (j 2)) - c (ix4 0 0 x (j 2)))) := by
  pointwise [k0_pay5, k0_pay3]
  exact congrArg (fun z => s z * _ + _) (idx_slab j)

/-- The windows' block indices at point `t` of the 2 by 16 grid: the sequence's blocks are taken last first. -/
theorem idx : ∀ t : Fin cfg0.N, win0_0.index t = ![t.val / 16, 0, 15 - t.val % 16, 0] ∧ win0_1.index t = ![t.val / 16, 0, 15 - t.val % 16, 0]
    ∧ win0_2.index t = ![t.val / 16, 0, 15 - t.val % 16, 0] ∧ win0_3.index t = ![t.val / 16, 0, 15 - t.val % 16, 0, 0] :=
  (by decide +kernel : ∀ t : Fin grid0.N, _)

theorem batch_lt (t : Fin cfg0.N) : t.val / 16 < 2 := by
  have h : cfg0.N = 32 := by decide
  have := t.isLt
  omega

/-- The batch a point works on. -/
abbrev batch (t : Fin cfg0.N) : Fin 2 := ⟨t.val / 16, batch_lt t⟩

variable (m : (ℓ : Loc nD τ sig) → Buf (Elt Ideal) ℓ)

theorem keys_at (c : Dev nD) (t : Fin cfg0.N) (h : Fin 8) (r : Fin 1024) (d : Fin 128) : iblk m c 0 t (ix4 0 h r d)
      = m ((c : Thread nD τ).loc main_arg0) (ix4 (batch t) h ⟨1024 * (15 - t.val % 16) + r.val, by omega⟩ d) := by
  blk_ext [iblk, V, idx t]

theorem gates_at (c : Dev nD) (t : Fin cfg0.N) (h : Fin 8) (r : Fin 1024) (d : Fin 128) : iblk m c 1 t (ix4 0 h r d)
      = m ((c : Thread nD τ).loc main_arg1) (ix4 (batch t) h ⟨1024 * (15 - t.val % 16) + r.val, by omega⟩ d) := by
  blk_ext [iblk, V, idx t]

theorem values_at (c : Dev nD) (t : Fin cfg0.N) (h : Fin 8) (r : Fin 1024) (d : Fin 128) : iblk m c 2 t (ix4 0 h r d)
      = m ((c : Thread nD τ).loc main_arg2) (ix4 (batch t) h ⟨1024 * (15 - t.val % 16) + r.val, by omega⟩ d) := by
  blk_ext [iblk, V, idx t]

/-- The reference's chunks of the keys, the gates and the values. -/
abbrev refKeys (c : Dev nD) : Cert.ReferenceIdeal.Scan.Chunks :=
  Cert.ReferenceIdeal.Scan.cut (extf .f32 (m ((c : Thread nD τ).loc main_arg0) : FVec Ideal S2x8x16384x128 .bf16) Cert.ReferenceIdeal.Gen.bitsLt_bf16_f32)
abbrev refGates (c : Dev nD) : Cert.ReferenceIdeal.Scan.Chunks := Cert.ReferenceIdeal.Scan.cut (m ((c : Thread nD τ).loc main_arg1))
abbrev refValues (c : Dev nD) : Cert.ReferenceIdeal.Scan.Chunks :=
  Cert.ReferenceIdeal.Scan.cut (extf .f32 (m ((c : Thread nD τ).loc main_arg2) : FVec Ideal S2x8x16384x128 .bf16) Cert.ReferenceIdeal.Gen.bitsLt_bf16_f32)

/-- The reference's state before chunk `k`. -/
abbrev refSt (c : Dev nD) (k : ℕ) := Cert.ReferenceIdeal.Scan.st (refKeys m c) (refGates m c) (refValues m c) k

/-- The reference's number of the chunk trip `k` of point `t` takes. -/
abbrev chunkNo (t : Fin cfg0.N) (k : Fin 16) : Fin 256 := ⟨16 * (t.val % 16) + k.val, by omega⟩

theorem row_no (t : Fin cfg0.N) (k : Fin 16) (r : Fin 64) :
    1024 * (15 - t.val % 16) + (960 - 64 * k.val + r.val) = 16383 - 64 * (16 * (t.val % 16) + k.val) - (Fin.rev r).val := by
  rw [Fin.val_rev]; omega

/-- The rows a trip reads are the reference's chunk, in the opposite order. -/
theorem rows_keys (c : Dev nD) (t : Fin cfg0.N) (k : Fin 16) (h : Fin 8) (r : Fin 64) (d : Fin 128) :
    rows (F := Ideal) (iblk m c 0 t) h k.val (ix4 0 0 r d) = refKeys m c (ix5 (chunkNo t k) (batch t) h (Fin.rev r) d) := by
  refine (keys_at m c t h ⟨960 - 64 * k.val + r.val, by omega⟩ d).trans ?_
  refine Eq.trans ?_ (Cert.ReferenceIdeal.Scan.cut_apply _ _ _ _ _ _).symm
  exact congrArg (fun x => m ((c : Thread nD τ).loc main_arg0) (ix4 (batch t) h x d)) (Fin.ext (row_no t k r))

theorem rows_gates (c : Dev nD) (t : Fin cfg0.N) (k : Fin 16) (h : Fin 8) (r : Fin 64) (d : Fin 128) :
    rows (F := Ideal) (iblk m c 1 t) h k.val (ix4 0 0 r d) = refGates m c (ix5 (chunkNo t k) (batch t) h (Fin.rev r) d) := by
  refine (gates_at m c t h ⟨960 - 64 * k.val + r.val, by omega⟩ d).trans ?_
  refine Eq.trans ?_ (Cert.ReferenceIdeal.Scan.cut_apply _ _ _ _ _ _).symm
  exact congrArg (fun x => m ((c : Thread nD τ).loc main_arg1) (ix4 (batch t) h x d)) (Fin.ext (row_no t k r))

theorem rows_values (c : Dev nD) (t : Fin cfg0.N) (k : Fin 16) (h : Fin 8) (r : Fin 64) (d : Fin 128) :
    rows (F := Ideal) (iblk m c 2 t) h k.val (ix4 0 0 r d) = refValues m c (ix5 (chunkNo t k) (batch t) h (Fin.rev r) d) := by
  refine (values_at m c t h ⟨960 - 64 * k.val + r.val, by omega⟩ d).trans ?_
  refine Eq.trans ?_ (Cert.ReferenceIdeal.Scan.cut_apply _ _ _ _ _ _).symm
  exact congrArg (fun x => m ((c : Thread nD τ).loc main_arg2) (ix4 (batch t) h x d)) (Fin.ext (row_no t k r))

/-- The kernel's state `S` is the reference's before chunk `q`, for batch `b`: the same numbers, transposed. -/
def Same (c : Dev nD) (b : Fin 2) (q : ℕ) (S : Vec Ideal S8x128x128 .f32) : Prop :=
  ∀ (h : Fin 8) (e d : Fin 128), S (ix3 h e d) = refSt m c q (ix4 b h d e)

/-- One trip keeps the two states the same. -/
theorem same_next (c : Dev nD) (t : Fin cfg0.N) (k : Fin 16) (S : Vec Ideal S8x128x128 .f32)
    (hS : Same m c (batch t) (16 * (t.val % 16) + k.val) S) :
    Same m c (batch t) (16 * (t.val % 16) + (k.val + 1)) (next (iblk m c 0 t) (iblk m c 1 t) (iblk m c 2 t) k.val S) := by
  intro h e d
  have hr : refSt m c (16 * (t.val % 16) + (k.val + 1))
      = Cert.ReferenceIdeal.Scan.next (refKeys m c) (refGates m c) (refValues m c) (chunkNo t k) (refSt m c (16 * (t.val % 16) + k.val)) :=
    dif_pos (show 16 * (t.val % 16) + k.val < 256 by omega)
  rw [hr]
  refine (pay5_apply (rows (iblk m c 1 t) h k.val) (slab S h) (rows (iblk m c 0 t) h k.val) (rows (iblk m c 2 t) h k.val) (ix3 0 e d)).trans ?_
  have hc0 := rows_gates m c t k h 0 d
  refine congrArg₂ (HAdd.hAdd : EReal → EReal → EReal) ?_ ?_
  · refine (congrArg₂ (HMul.hMul : EReal → EReal → EReal) (hS h e d) (congrArg Ideal.exp2 hc0)).trans (mul_comm _ _)
  · refine Fintype.sum_equiv Fin.revPerm _ _ fun x => ?_
    refine (congrArg₂ (HMul.hMul : EReal → EReal → EReal) (rows_values m c t k h x e) (congrArg₂ (HMul.hMul : EReal → EReal → EReal) (rows_keys m c t k h x d)
      (congrArg Ideal.exp2 (congrArg₂ (HSub.hSub : EReal → EReal → EReal) hc0 (rows_gates m c t k h x d))))).trans (mul_comm _ _)

/-- All of a point's trips. -/
theorem same_st (c : Dev nD) (t : Fin cfg0.N) (S : Vec Ideal S8x128x128 .f32) (hS : Same m c (batch t) (16 * (t.val % 16)) S) :
    ∀ k ≤ 16, Same m c (batch t) (16 * (t.val % 16) + k) (st (iblk m c 0 t) (iblk m c 1 t) (iblk m c 2 t) S k)
  | 0, _ => hS
  | k + 1, hk => same_next m c t ⟨k, by omega⟩ _ (same_st c t S hS k (by omega))

/-- What a point starts from. -/
theorem same_start (c : Dev nD) : ∀ (n : ℕ) (h : n < cfg0.N), Same m c (batch ⟨n, h⟩) (16 * (n % 16)) (start m c n h) := by
  intro n
  induction n with
  | zero => exact fun h i e d => pay1_apply _
  | succ n ih =>
    intro h
    by_cases h0 : (n + 1) % 16 = 0
    · rw [start_reset m c (n + 1) h h0, h0]
      exact fun i e d => pay1_apply _
    · rw [start_carry m c (n + 1) h h0, left_eq]
      have hs := same_st m c ⟨n, by omega⟩ _ (ih (by omega)) 16 (le_refl _)
      have hb : batch ⟨n + 1, h⟩ = batch ⟨n, by omega⟩ := Fin.ext (show (n + 1) / 16 = n / 16 by omega)
      rw [hb, show 16 * ((n + 1) % 16) = 16 * (n % 16) + 16 by omega]
      exact hs

/-- The block of states point `t` leaves. -/
theorem block_at (c : Dev nD) (t : Fin cfg0.N) (y : S1x8x16x128x128.Idx) :
    block m c t y = refSt m c (16 * (t.val % 16) + (15 - (y 2).val)) (ix4 (batch t) (y 1) (y 4) (y 3)) := by
  refine (pay4_apply (slab (st (iblk m c 0 t) (iblk m c 1 t) (iblk m c 2 t) (start m c t.val t.isLt) (15 - (y 2).val)) (y 1)) (ix5 0 0 0 (y 3) (y 4))).trans ?_
  exact same_st m c t _ (same_start m c t.val t.isLt) (15 - (y 2).val) (by omega) (y 1) (y 3) (y 4)

/-- The result array after the run is the reference's formula of the argument arrays. -/
theorem final (c : Dev nD) : (dats m 0 c).arrAt 3 cfg0.N
    = Cert.ReferenceIdeal.Scan.RES (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_states, block_at]
  have hi := (idx t).2.2.2
  have hy : (y 2).val < 16 := (y 2).isLt
  have e : (win0_3.blk t).view.emb y = ix5 (batch t) (y 1) ⟨16 * (15 - t.val % 16) + (y 2).val, by omega⟩ (y 3) (y 4) := by
    have h0 : (y 0).val < 1 := (y 0).isLt
    blk_ext [hi]
  rw [e]
  exact congrArg (fun n => refSt m c n (ix4 (batch t) (y 1) (y 4) (y 3)))
    (show 16 * (t.val % 16) + (15 - (y 2).val) = 255 - (16 * (15 - t.val % 16) + (y 2).val) by omega)

end Cert.Kernel.Scan

end
-- ==== Proof.Mix.lean ====
/- The block after the recurrence: what the tiled kernel leaves in its two result arrays is
   `h = x + [a, s] @ W` and `rms h g`, over the extended reals. -/
module

public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem

namespace Mix

/-- A row's mixed features: the eight heads' entries one head after another, then the 1024 gated ones. -/
def cat (a : Fin 8 → Fin 128 → EReal) (s : Fin 1024 → EReal) (k : Fin 2048) : EReal :=
  if h : k.val < 1024 then a ⟨k.val / 128, by omega⟩ ⟨k.val % 128, by omega⟩ else s ⟨k.val - 1024, by omega⟩

/-- One entry of the residual row: `x` plus the mixed features' product with a weight column. -/
def res (x : EReal) (a : Fin 8 → Fin 128 → EReal) (s : Fin 1024 → EReal) (w : Fin 2048 → EReal) : EReal :=
  x + ∑ k : Fin 2048, cat a s k * w k

/-- One entry of a row divided by the row's root mean square, times its gain. -/
def rms (x : Fin 2048 → EReal) (g : EReal) (j : Fin 2048) : EReal :=
  x j * Ideal.rsqrt (Ideal.div (∑ k : Fin 2048, x k * x k) (Ideal.ofBits .f32 0x45000000#32) + Ideal.ofBits .f32 0x358637BD#32) * g

end Mix

namespace Cert.Reference3Ideal.Mix

open Cert.Reference3Ideal Cert.Reference3Ideal.Gen

/-- The heads side by side, then the gated features. -/
def CAT (a : FVec Ideal S2x8x16384x128 .bf16) (s : FVec Ideal S32768x1024 .bf16) : FVec Ideal S32768x2048 .f32 :=
  concatenate S32768x2048 1 [⟨S32768x1024, (shapeCast _ (transpose S2x16384x8x128 [0, 2, 1, 3] (extf .f32 a bitsLt_bf16_f32) transposes_S2x8x16384x128_S2x16384x8x128_0_2_1_3) shapeCasts_S2x16384x8x128_S32768x1024)⟩, ⟨S32768x1024, (extf .f32 s bitsLt_bf16_f32)⟩] concatenates_S32768x1024_S32768x1024_S32768x2048_d1

/-- The first result's formula. -/
def RES (x : FVec Ideal S32768x2048 .f32) (a : FVec Ideal S2x8x16384x128 .bf16) (s : FVec Ideal S32768x1024 .bf16) (w : FVec Ideal S2048x2048 .f32) :
    FVec Ideal S32768x2048 .f32 :=
  addf x (Host.dotGeneral (φ₁ := .f32) (φ₂ := .f32) dot_S32768x2048_S2048x2048_S32768x2048_1_0_0_1_n_n none (CAT a s) w)

/-- The second result's formula. -/
def NRM (h : FVec Ideal S32768x2048 .f32) (g : FVec Ideal S2048 .f32) : FVec Ideal S32768x2048 .bf16 :=
  truncf .bf16 (mulf (mulf h (broadcastInDim S32768x2048 ![0, 1] bcast_S32768x1_S32768x2048_0_1 (Host.rsqrt (addf (Host.divf (broadcastInDim S32768x1 ![0] bcast_S32768_S32768x1_0 (Host.reduceAdd (mulf h h) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) bitsLt_bf16_f32

theorem CAT_at (a : FVec Ideal S2x8x16384x128 .bf16) (s : FVec Ideal S32768x1024 .bf16) (i : Fin 32768) (k : Fin 2048) :
    CAT a s (ix2 i k) = _root_.Mix.cat (fun h d => a (ix4 ⟨i.val / 16384, by omega⟩ h ⟨i.val % 16384, by omega⟩ d)) (fun q => s (ix2 i q)) k := by
  pointwise [CAT]
  rfl

theorem RES_at (x : FVec Ideal S32768x2048 .f32) (a : FVec Ideal S2x8x16384x128 .bf16) (s : FVec Ideal S32768x1024 .bf16) (w : FVec Ideal S2048x2048 .f32)
    (i : Fin 32768) (j : Fin 2048) : RES x a s w (ix2 i j) = _root_.Mix.res (x (ix2 i j)) (fun h d => a (ix4 ⟨i.val / 16384, by omega⟩ h ⟨i.val % 16384, by omega⟩ d))
      (fun q => s (ix2 i q)) (fun k => w (ix2 k j)) := by
  pointwise [RES]
  simp only [CAT_at, _root_.Mix.res]

theorem NRM_at (h : FVec Ideal S32768x2048 .f32) (g : FVec Ideal S2048 .f32) (i : Fin 32768) (j : Fin 2048) :
    NRM h g (ix2 i j) = _root_.Mix.rms (fun k => h (ix2 i k)) (g (ix1 j)) j := by
  pointwise [NRM]
  rfl

end Cert.Reference3Ideal.Mix

namespace Cert.Kernel3Ideal.Mix

open Cert.Kernel3Ideal Cert.Kernel3Ideal.Gen
open Idealize.ShloMosaic.Pipeline (Dat)

variable (m : (ℓ : Loc nD τ sig) → Buf (Elt Ideal) ℓ)

theorem head_at (v : Fin 8 → FVec Ideal S1x1x256x128 .bf16) (i : Fin 256) {h h' : Fin 8} {d d' : Fin 128} (eh : h.val = h'.val) (ed : d.val = d'.val) :
    v h (ix4 0 0 i d) = v h' (ix4 0 0 i d') := by
  obtain rfl := Fin.ext eh
  obtain rfl := Fin.ext ed
  rfl

theorem pay_cat (v : Fin 8 → FVec Ideal S1x1x256x128 .bf16) (s : FVec Ideal S256x1024 .bf16) (i : Fin 256) (k : Fin 2048) :
    k0_pay4 (F := Ideal) (v 0) (v 1) (v 2) (v 3) (v 4) (v 5) (v 6) (v 7) s (ix2 i k)
      = _root_.Mix.cat (fun h d => v h (ix4 0 0 i d)) (fun q => s (ix2 i q)) k := by
  pointwise [k0_pay4]
  unfold _root_.Mix.cat
  dsimp only
  repeat' split
  all_goals first
    | omega
    | (refine head_at v i ?_ ?_ <;> dsimp <;> omega)
    | (refine congrArg s ?_; blk_ext [])

theorem pay_res (w : FVec Ideal S2048x2048 .bf16) (u : FVec Ideal S256x2048 .bf16) (x : FVec Ideal S256x2048 .f32) (i : Fin 256) (j : Fin 2048) :
    k0_pay5 (F := Ideal) (k0_pay3 w) u x (ix2 i j) = x (ix2 i j) + ∑ k : Fin 2048, u (ix2 i k) * w (ix2 k j) := by
  pointwise [k0_pay5, k0_pay3]

theorem pay_rms (w : FVec Ideal S2048x2048 .bf16) (u : FVec Ideal S256x2048 .bf16) (x : FVec Ideal S256x2048 .f32) (g : FVec Ideal S1x2048 .f32)
    (i : Fin 256) (j : Fin 2048) : k0_pay6 (F := Ideal) w u x g (ix2 i j)
      = _root_.Mix.rms (fun k => k0_pay5 (F := Ideal) w u x (ix2 i k)) (g (ix2 0 j)) j := by
  pointwise [k0_pay6]
  rfl

/-- The second half of a block is computed as the first is. -/
theorem pay_res_second (w : FVec Ideal S2048x2048 .bf16) (v0 v1 v2 v3 v4 v5 v6 v7 : FVec Ideal S1x1x256x128 .bf16) (s : FVec Ideal S256x1024 .bf16)
    (x : FVec Ideal S256x2048 .f32) : k0_pay1 (F := Ideal) w (k0_pay7 v0) (k0_pay8 v1) (k0_pay9 v2) (k0_pay10 v3) v4 v5 v6 v7 s x
      = k0_pay5 w (k0_pay4 v0 v1 v2 v3 v4 v5 v6 v7 s) x := rfl

theorem pay_rms_second (w : FVec Ideal S2048x2048 .bf16) (v0 v1 v2 v3 v4 v5 v6 v7 : FVec Ideal S1x1x256x128 .bf16) (s : FVec Ideal S256x1024 .bf16)
    (x : FVec Ideal S256x2048 .f32) (g : FVec Ideal S1x2048 .f32) :
    k0_pay2 (F := Ideal) w (k0_pay7 v0) (k0_pay8 v1) (k0_pay9 v2) (k0_pay10 v3) v4 v5 v6 v7 s x g
      = k0_pay6 w (k0_pay4 v0 v1 v2 v3 v4 v5 v6 v7 s) x g := rfl

/-- One half's features, from its eight head loads and its load of the gated features, `o` rows down the block. -/
theorem half_cat (a : FVec Ideal S1x8x512x128 .bf16) (s : FVec Ideal S512x1024 .bf16) (v : Fin 8 → FVec Ideal S1x1x256x128 .bf16)
    (u : FVec Ideal S256x1024 .bf16) (i : Fin 256) (r : Fin 512) (hv : ∀ h d, v h (ix4 0 0 i d) = a (ix4 0 h r d)) (hu : ∀ q, u (ix2 i q) = s (ix2 r q))
    (k : Fin 2048) : k0_pay4 (F := Ideal) (v 0) (v 1) (v 2) (v 3) (v 4) (v 5) (v 6) (v 7) u (ix2 i k)
      = _root_.Mix.cat (fun h d => a (ix4 0 h r d)) (fun q => s (ix2 r q)) k := by
  rw [pay_cat]
  simp only [hv, hu]

/-- One half of the first result at row `r` of the block, from the half's loads. -/
theorem half_res (x : FVec Ideal S512x2048 .f32) (a : FVec Ideal S1x8x512x128 .bf16) (s : FVec Ideal S512x1024 .bf16) (w : FVec Ideal S2048x2048 .bf16)
    (v : Fin 8 → FVec Ideal S1x1x256x128 .bf16) (u : FVec Ideal S256x1024 .bf16) (y : FVec Ideal S256x2048 .f32) (i : Fin 256) (r : Fin 512)
    (hv : ∀ h d, v h (ix4 0 0 i d) = a (ix4 0 h r d)) (hu : ∀ q, u (ix2 i q) = s (ix2 r q)) (hy : ∀ j, y (ix2 i j) = x (ix2 r j)) (j : Fin 2048) :
    k0_pay5 (F := Ideal) (k0_pay3 w) (k0_pay4 (v 0) (v 1) (v 2) (v 3) (v 4) (v 5) (v 6) (v 7) u) y (ix2 i j)
      = _root_.Mix.res (x (ix2 r j)) (fun h d => a (ix4 0 h r d)) (fun q => s (ix2 r q)) (fun k => w (ix2 k j)) := by
  rw [pay_res, hy]
  simp only [half_cat a s v u i r hv hu, _root_.Mix.res]

/-- The eight head loads of a block's first 256 rows, and of its last 256. -/
def heads (a : Vec Ideal S1x8x512x128 .bf16) : Fin 8 → FVec Ideal S1x1x256x128 .bf16 :=
  ![View.ld a r0_1, View.ld a r0_2, View.ld a r0_3, View.ld a r0_4, View.ld a r0_5, View.ld a r0_6, View.ld a r0_7, View.ld a r0_8]

@[inherit_doc heads]
def headsLast (a : Vec Ideal S1x8x512x128 .bf16) : Fin 8 → FVec Ideal S1x1x256x128 .bf16 :=
  ![View.ld a r0_12, View.ld a r0_13, View.ld a r0_14, View.ld a r0_15, View.ld a r0_16, View.ld a r0_17, View.ld a r0_18, View.ld a r0_19]

theorem head_ld (a : Vec Ideal S1x8x512x128 .bf16) (h : Fin 8) (o : Nat) (inb : ∀ x, ![0, h.val, o, 0] x + S1x1x256x128.size x ≤ S1x8x512x128.size x)
    (i : Fin 256) (r : Fin 512) (e : r.val = o + i.val) (d : Fin 128) :
    View.ld a (Rect.unit (s := S1x8x512x128) ![0, h.val, o, 0] S1x1x256x128.size inb) (ix4 0 0 i d) = a (ix4 0 h r d) := by
  refine congrArg a ?_
  blk_ext [e, Rect.idx_unit_val]

theorem heads_at (a : Vec Ideal S1x8x512x128 .bf16) (i : Fin 256) (r : Fin 512) (e : r.val = i.val) (h : Fin 8) (d : Fin 128) :
    heads a h (ix4 0 0 i d) = a (ix4 0 h r d) :=
  have e : r.val = 0 + i.val := by omega
  match h with
  | 0 => head_ld a 0 0 _ i r e d
  | 1 => head_ld a 1 0 _ i r e d
  | 2 => head_ld a 2 0 _ i r e d
  | 3 => head_ld a 3 0 _ i r e d
  | 4 => head_ld a 4 0 _ i r e d
  | 5 => head_ld a 5 0 _ i r e d
  | 6 => head_ld a 6 0 _ i r e d
  | 7 => head_ld a 7 0 _ i r e d

theorem headsLast_at (a : Vec Ideal S1x8x512x128 .bf16) (i : Fin 256) (r : Fin 512) (e : r.val = 256 + i.val) (h : Fin 8) (d : Fin 128) :
    headsLast a h (ix4 0 0 i d) = a (ix4 0 h r d) :=
  match h with
  | 0 => head_ld a 0 256 _ i r e d
  | 1 => head_ld a 1 256 _ i r e d
  | 2 => head_ld a 2 256 _ i r e d
  | 3 => head_ld a 3 256 _ i r e d
  | 4 => head_ld a 4 256 _ i r e d
  | 5 => head_ld a 5 256 _ i r e d
  | 6 => head_ld a 6 256 _ i r e d
  | 7 => head_ld a 7 256 _ i r e d

theorem gated_at (s : Vec Ideal S512x1024 .bf16) (i : Fin 256) (r : Fin 512) (e : r.val = i.val) (q : Fin 1024) :
    View.ld s r0_9 (ix2 i q) = s (ix2 r q) := by
  refine congrArg s ?_
  blk_ext [e, Rect.idx_unit_val]

theorem gatedLast_at (s : Vec Ideal S512x1024 .bf16) (i : Fin 256) (r : Fin 512) (e : r.val = 256 + i.val) (q : Fin 1024) :
    View.ld s r0_20 (ix2 i q) = s (ix2 r q) := by
  refine congrArg s ?_
  blk_ext [e, Rect.idx_unit_val]

theorem resid_at (x : Vec Ideal S512x2048 .f32) (i : Fin 256) (r : Fin 512) (e : r.val = i.val) (q : Fin 2048) :
    View.ld x r0_10 (ix2 i q) = x (ix2 r q) := by
  refine congrArg x ?_
  blk_ext [e, Rect.idx_unit_val]

theorem residLast_at (x : Vec Ideal S512x2048 .f32) (i : Fin 256) (r : Fin 512) (e : r.val = 256 + i.val) (q : Fin 2048) :
    View.ld x r0_21 (ix2 i q) = x (ix2 r q) := by
  refine congrArg x ?_
  blk_ext [e, Rect.idx_unit_val]

theorem weights_ld (w : Vec Ideal S2048x2048 .bf16) : View.ld w r0_0 = w := by
  exact View.ld_unit_zero (by funext a; fin_cases a <;> rfl) _ w

theorem gain_ld (g : Vec Ideal S1x2048 .f32) : View.ld g r0_11 = g := by
  exact View.ld_unit_zero (by funext a; fin_cases a <;> rfl) _ g

/-- The first result's rows, in terms of the input blocks. -/
def blockRes (x : Vec Ideal S512x2048 .f32) (a : Vec Ideal S1x8x512x128 .bf16) (s : Vec Ideal S512x1024 .bf16) (w : Vec Ideal S2048x2048 .bf16)
    (r : Fin 512) (j : Fin 2048) : EReal :=
  _root_.Mix.res (x (ix2 r j)) (fun h d => a (ix4 0 h r d)) (fun q => s (ix2 r q)) (fun k => w (ix2 k j))

/-- The first result's rows `0` to `255`, as the body computes them. -/
def low (x : Vec Ideal S512x2048 .f32) (a : Vec Ideal S1x8x512x128 .bf16) (s : Vec Ideal S512x1024 .bf16) (w : Vec Ideal S2048x2048 .bf16) :
    FVec Ideal S256x2048 .f32 :=
  k0_pay5 (k0_pay3 (View.ld w r0_0)) (k0_pay4 (heads a 0) (heads a 1) (heads a 2) (heads a 3) (heads a 4) (heads a 5) (heads a 6) (heads a 7) (View.ld s r0_9)) (View.ld x r0_10)

/-- The first result's rows `256` to `511`, as the body computes them. -/
def high (x : Vec Ideal S512x2048 .f32) (a : Vec Ideal S1x8x512x128 .bf16) (s : Vec Ideal S512x1024 .bf16) (w : Vec Ideal S2048x2048 .bf16) :
    FVec Ideal S256x2048 .f32 :=
  k0_pay5 (k0_pay3 (View.ld w r0_0)) (k0_pay4 (headsLast a 0) (headsLast a 1) (headsLast a 2) (headsLast a 3) (headsLast a 4) (headsLast a 5) (headsLast a 6) (headsLast a 7) (View.ld s r0_20)) (View.ld x r0_21)

theorem low_at (x : Vec Ideal S512x2048 .f32) (a : Vec Ideal S1x8x512x128 .bf16) (s : Vec Ideal S512x1024 .bf16) (w : Vec Ideal S2048x2048 .bf16)
    (i : Fin 256) (r : Fin 512) (e : r.val = i.val) (j : Fin 2048) : low x a s w (ix2 i j) = blockRes x a s w r j := by
  unfold low
  rw [weights_ld]
  exact half_res x a s w (heads a) _ _ i r (heads_at a i r e) (gated_at s i r e) (resid_at x i r e) j

theorem high_at (x : Vec Ideal S512x2048 .f32) (a : Vec Ideal S1x8x512x128 .bf16) (s : Vec Ideal S512x1024 .bf16) (w : Vec Ideal S2048x2048 .bf16)
    (i : Fin 256) (r : Fin 512) (e : r.val = 256 + i.val) (j : Fin 2048) : high x a s w (ix2 i j) = blockRes x a s w r j := by
  unfold high
  rw [weights_ld]
  exact half_res x a s w (headsLast a) _ _ i r (headsLast_at a i r e) (gatedLast_at s i r e) (residLast_at x i r e) j

/-- What the first output block holds at row `r`, over the input blocks. -/
theorem out_res (x : Vec Ideal S512x2048 .f32) (a : Vec Ideal S1x8x512x128 .bf16) (s : Vec Ideal S512x1024 .bf16) (w : Vec Ideal S2048x2048 .bf16)
    (g : Vec Ideal S1x2048 .f32) (r : Fin 512) (j : Fin 2048) : out0_5 (F := Ideal) x a s w g (ix2 r j) = blockRes x a s w r j := by
  unfold out0_5
  canon_tiles z h
  case piece0 =>
    have ez : z = ix2 (z 0) j := by
      blk_ext []
      exact h1.symm
    exact (congrArg (high x a s w) ez).trans (high_at x a s w (z 0) r h0 j)
  case piece1 =>
    have ez : z = ix2 (z 0) j := by
      blk_ext []
      exact h1.symm
    exact (congrArg (low x a s w) ez).trans (low_at x a s w (z 0) r h0 j)

/-- What the second output block holds at row `r`: that row of the first block, normalised. -/
theorem out_rms (x : Vec Ideal S512x2048 .f32) (a : Vec Ideal S1x8x512x128 .bf16) (s : Vec Ideal S512x1024 .bf16) (w : Vec Ideal S2048x2048 .bf16)
    (g : Vec Ideal S1x2048 .f32) (r : Fin 512) (j : Fin 2048) :
    out0_6 (F := Ideal) x a s w g (ix2 r j) = _root_.Mix.rms (fun k => blockRes x a s w r k) (g (ix2 0 j)) j := by
  unfold out0_6
  canon_tiles z h
  case piece0 =>
    have ez : z = ix2 (z 0) j := by
      blk_ext []
      exact h1.symm
    refine (congrArg (k0_pay6 _ _ _ _) ez).trans ((pay_rms _ _ _ _ (z 0) j).trans ?_)
    rw [gain_ld]
    exact congrArg (fun f => _root_.Mix.rms f (g (ix2 0 j)) j) (funext fun k => high_at x a s w (z 0) r h0 k)
  case piece1 =>
    have ez : z = ix2 (z 0) j := by
      blk_ext []
      exact h1.symm
    refine (congrArg (k0_pay6 _ _ _ _) ez).trans ((pay_rms _ _ _ _ (z 0) j).trans ?_)
    rw [gain_ld]
    exact congrArg (fun f => _root_.Mix.rms f (g (ix2 0 j)) j) (funext fun k => low_at x a s w (z 0) r h0 k)

/-- The windows' block indices at point `t` of the 64 row blocks. -/
theorem idx : ∀ t : Fin cfg0.N, win0_0.index t = ![t.val, 0] ∧ win0_1.index t = ![t.val / 32, 0, t.val % 32, 0]
    ∧ win0_2.index t = ![t.val, 0] ∧ win0_3.index t = ![0, 0] ∧ win0_4.index t = ![0, 0] ∧ win0_5.index t = ![t.val, 0] ∧ win0_6.index t = ![t.val, 0] :=
  (by decide +kernel : ∀ t : Fin grid0.N, _)

theorem weights (c : Dev nD) : V m c main_v0 = (truncf .bf16 (m ((c : Thread nD τ).loc main_arg3) : FVec Ideal S2048x2048 .f32) bitsLt_bf16_f32 : FVec Ideal S2048x2048 .bf16) := by
  unfold V; after_results; try rfl

theorem gain_row (c : Dev nD) : V m c main_v1 = (shapeCast S1x2048 (m ((c : Thread nD τ).loc main_arg4) : FVec Ideal S2048 .f32) shapeCasts_S2048_S1x2048 : FVec Ideal S1x2048 .f32) := by
  unfold V; after_results; try rfl

theorem row_lt (t : Fin cfg0.N) (r : Fin 512) : 512 * t.val + r.val < 32768 := by
  have h : cfg0.N = 64 := by decide
  have := t.isLt
  omega

theorem x_at (c : Dev nD) (t : Fin cfg0.N) (r : Fin 512) (k : Fin 2048) :
    iblk m c 0 t (ix2 r k) = m ((c : Thread nD τ).loc main_arg0) (ix2 ⟨512 * t.val + r.val, row_lt t r⟩ k) := by
  blk_ext [iblk, V, idx t]

theorem a_at (c : Dev nD) (t : Fin cfg0.N) (h : Fin 8) (r : Fin 512) (d : Fin 128) :
    iblk m c 1 t (ix4 0 h r d) = m ((c : Thread nD τ).loc main_arg1) (ix4 ⟨(512 * t.val + r.val) / 16384, by have := row_lt t r; omega⟩ h
      ⟨(512 * t.val + r.val) % 16384, by omega⟩ d) := by
  blk_ext [iblk, V, idx t]

theorem s_at (c : Dev nD) (t : Fin cfg0.N) (r : Fin 512) (k : Fin 1024) :
    iblk m c 2 t (ix2 r k) = m ((c : Thread nD τ).loc main_arg2) (ix2 ⟨512 * t.val + r.val, row_lt t r⟩ k) := by
  blk_ext [iblk, V, idx t]

theorem weights_at (c : Dev nD) (t : Fin cfg0.N) (k l : Fin 2048) :
    iblk m c 3 t (ix2 k l) = m ((c : Thread nD τ).loc main_arg3) (ix2 k l) := by
  blk_ext [iblk, weights, idx t]

theorem gain (c : Dev nD) : V m c main_v1 = fun j : S1x2048.Idx => (m ((c : Thread nD τ).loc main_arg4) : FVec Ideal S2048 .f32) (ix1 (j 1)) := by
  rw [gain_row]; funext j; pointwise []

theorem gain_at (c : Dev nD) (t : Fin cfg0.N) (k : Fin 2048) :
    iblk m c 4 t (ix2 0 k) = m ((c : Thread nD τ).loc main_arg4) (ix1 k) := by
  have e : (win0_4.blk t).view.emb (ix2 0 k) = ix2 0 k := by blk_ext [idx t]
  exact (congrArg (V m c main_v1) e).trans (congrFun (gain m c) (ix2 0 k))

/-- A point's rows of the first result are the formula's. -/
theorem block_at (c : Dev nD) (t : Fin cfg0.N) (i : Fin 512) (j : Fin 2048) :
    blockRes (iblk m c 0 t) (iblk m c 1 t) (iblk m c 2 t) (iblk m c 3 t) i j
      = Cert.Reference3Ideal.Mix.RES (m ((c : Thread nD τ).loc main_arg0)) (m ((c : Thread nD τ).loc main_arg1)) (m ((c : Thread nD τ).loc main_arg2)) (m ((c : Thread nD τ).loc main_arg3)) (ix2 ⟨512 * t.val + i.val, row_lt t i⟩ j) := by
  refine Eq.trans ?_ (Cert.Reference3Ideal.Mix.RES_at _ _ _ _ _ _).symm
  unfold blockRes
  simp only [x_at, a_at, s_at, weights_at]

theorem res_at (c : Dev nD) (t : Fin cfg0.N) (i : Fin 512) (j : Fin 2048) :
    (dats m 0 c).after 5 t (ix2 i j) = Cert.Reference3Ideal.Mix.RES (m ((c : Thread nD τ).loc main_arg0)) (m ((c : Thread nD τ).loc main_arg1)) (m ((c : Thread nD τ).loc main_arg2)) (m ((c : Thread nD τ).loc main_arg3)) (ix2 ⟨512 * t.val + i.val, row_lt t i⟩ j) := by
  rw [after0_5]
  exact (out_res _ _ _ _ _ i j).trans (block_at m c t i j)

theorem nrm_at (c : Dev nD) (t : Fin cfg0.N) (i : Fin 512) (j : Fin 2048) :
    (dats m 0 c).after 6 t (ix2 i j) = Cert.Reference3Ideal.Mix.NRM (Cert.Reference3Ideal.Mix.RES (m ((c : Thread nD τ).loc main_arg0)) (m ((c : Thread nD τ).loc main_arg1)) (m ((c : Thread nD τ).loc main_arg2)) (m ((c : Thread nD τ).loc main_arg3))) (m ((c : Thread nD τ).loc main_arg4))
      (ix2 ⟨512 * t.val + i.val, row_lt t i⟩ j) := by
  refine Eq.trans ?_ (Cert.Reference3Ideal.Mix.NRM_at _ _ _ _).symm
  rw [after0_6]
  refine (out_rms _ _ _ _ _ i j).trans ?_
  simp only [block_at, gain_at]

/-- The first result array after the run is its formula of the argument arrays. -/
theorem final_res (c : Dev nD) : (dats m 0 c).arrAt 5 (cfgs 0).N = Cert.Reference3Ideal.Mix.RES (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have hi := (idx t).2.2.2.2.2.1
  have e : (win0_5.blk t).view.emb y = ix2 ⟨512 * t.val + (y 0).val, row_lt t (y 0)⟩ (y 1) := by blk_ext [hi]
  have ey : y = ix2 (y 0) (y 1) := by blk_ext []
  rw [e]
  exact (congrArg ((dats m 0 c).after 5 t) ey).trans (res_at m c t (y 0) (y 1))

/-- The second result array after the run is its formula of the argument arrays. -/
theorem final_nrm (c : Dev nD) : (dats m 0 c).arrAt 6 (cfgs 0).N = Cert.Reference3Ideal.Mix.NRM (Cert.Reference3Ideal.Mix.RES (m ((c : Thread nD τ).loc main_arg0)) (m ((c : Thread nD τ).loc main_arg1)) (m ((c : Thread nD τ).loc main_arg2)) (m ((c : Thread nD τ).loc main_arg3))) (m ((c : Thread nD τ).loc main_arg4)) := by
  refine (dats m 0 c).arrAt_eq_of_covers 6 _ (by decide +kernel) fun t hf y => ?_
  blk_simp
  have hi := (idx t).2.2.2.2.2.2
  have e : (win0_6.blk t).view.emb y = ix2 ⟨512 * t.val + (y 0).val, row_lt t (y 0)⟩ (y 1) := by blk_ext [hi]
  have ey : y = ix2 (y 0) (y 1) := by blk_ext []
  rw [e]
  exact (congrArg ((dats m 0 c).after 6 t) ey).trans (nrm_at m c t (y 0) (y 1))

end Cert.Kernel3Ideal.Mix

end
-- ==== Proof.Ple.lean ====
/- The layer's last block: what the tiled kernel leaves in its result array is the formula
   `rms (x + sigmoid (rms x gple @ Wg) * (p @ Wp)) gout` with `x = h + f`, over the extended reals. -/
module

public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem

namespace Ple

/-- One entry of a row divided by the row's root mean square, times its gain `g`. -/
def rms (x : Fin 2048 → EReal) (g : EReal) (j : Fin 2048) : EReal :=
  x j * Ideal.rsqrt (Ideal.div (∑ k : Fin 2048, x k * x k) (Ideal.ofBits .f32 0x45000000#32) + Ideal.ofBits .f32 0x358637BD#32) * g

/-- `1 / (1 + exp (0 - z))`. -/
def sig (z : EReal) : EReal := Ideal.div 1 (1 + Ideal.exp (0 - z))

/-- One entry of a row before the last normalisation: `x = h + f` plus the gated projection of `p`. -/
def mid (x : Fin 2048 → EReal) (g : Fin 2048 → EReal) (p : Fin 256 → EReal) (wg : Fin 2048 → EReal) (wp : Fin 256 → EReal) (j : Fin 2048) : EReal :=
  x j + sig (∑ k : Fin 2048, rms x (g k) k * wg k) * ∑ q : Fin 256, p q * wp q

end Ple

namespace Cert.Reference4Ideal.Ple

open Cert.Reference4Ideal Cert.Reference4Ideal.Gen

/-- The formula's normalisation. -/
def RMS (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))

/-- The rows before the last normalisation, from `x = h + f`. -/
def MID (x : FVec Ideal S32768x2048 .f32) (p : FVec Ideal S32768x256 .f32) (g : FVec Ideal S2048 .f32) (wg : FVec Ideal S2048x2048 .f32)
    (wp : FVec Ideal S256x2048 .f32) : FVec Ideal S32768x2048 .f32 :=
  addf x (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (Host.dotGeneral dot_S32768x2048_S2048x2048_S32768x2048_1_0_0_1_n_n none (RMS x g) wg))))) (Host.dotGeneral dot_S32768x256_S256x2048_S32768x2048_1_0_0_1_n_n none p wp))

/-- The formula over its seven argument arrays. -/
def REF (h f : FVec Ideal S32768x2048 .f32) (p : FVec Ideal S32768x256 .f32) (g : FVec Ideal S2048 .f32) (wg : FVec Ideal S2048x2048 .f32)
    (wp : FVec Ideal S256x2048 .f32) (go : FVec Ideal S2048 .f32) : FVec Ideal S32768x2048 .f32 :=
  RMS (MID (addf h f) p g wg wp) go

theorem RMS_at (x : FVec Ideal S32768x2048 .f32) (g : FVec Ideal S2048 .f32) (i : Fin 32768) (j : Fin 2048) :
    RMS x g (ix2 i j) = _root_.Ple.rms (fun k => x (ix2 i k)) (g (ix1 j)) j := by
  pointwise [RMS]
  rfl

theorem MID_at (x : FVec Ideal S32768x2048 .f32) (p : FVec Ideal S32768x256 .f32) (g : FVec Ideal S2048 .f32) (wg : FVec Ideal S2048x2048 .f32)
    (wp : FVec Ideal S256x2048 .f32) (i : Fin 32768) (j : Fin 2048) :
    MID x p g wg wp (ix2 i j) = _root_.Ple.mid (fun k => x (ix2 i k)) (fun k => g (ix1 k)) (fun q => p (ix2 i q)) (fun k => wg (ix2 k j))
      (fun q => wp (ix2 q j)) j := by
  pointwise [MID]
  simp only [RMS_at, _root_.Ple.mid, _root_.Ple.sig, zero_sub]

/-- The formula at one element. -/
theorem REF_at (h f : FVec Ideal S32768x2048 .f32) (p : FVec Ideal S32768x256 .f32) (g : FVec Ideal S2048 .f32) (wg : FVec Ideal S2048x2048 .f32)
    (wp : FVec Ideal S256x2048 .f32) (go : FVec Ideal S2048 .f32) (i : Fin 32768) (j : Fin 2048) :
    REF h f p g wg wp go (ix2 i j) = _root_.Ple.rms (fun l => _root_.Ple.mid (fun k => h (ix2 i k) + f (ix2 i k)) (fun k => g (ix1 k)) (fun q => p (ix2 i q))
      (fun k => wg (ix2 k l)) (fun q => wp (ix2 q l)) l) (go (ix1 j)) j := by
  unfold REF
  rw [RMS_at]
  simp only [MID_at]
  rfl

variable (m : (ℓ : Loc nD τ sig) → Buf (Elt Ideal) ℓ)

theorem result_eq (c : Dev nD) : Cert.Reference4Ideal.Value.res_main_v36 m c = REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := rfl

end Cert.Reference4Ideal.Ple

namespace Cert.Kernel4Ideal.Ple

open Cert.Kernel4Ideal Cert.Kernel4Ideal.Gen
open Idealize.ShloMosaic.Pipeline (Dat)

variable (m : (ℓ : Loc nD τ sig) → Buf (Elt Ideal) ℓ)

theorem pay_rms (x : FVec Ideal S512x2048 .f32) (g : FVec Ideal S1x2048 .f32) (i : Fin 512) (j : Fin 2048) :
    k0_pay1 (F := Ideal) x (k0_pay3 g) (ix2 i j) = _root_.Ple.rms (fun k => x (ix2 i k)) (g (ix2 0 j)) j := by
  pointwise [k0_pay1, k0_pay3]
  rfl

theorem pay_mid (h f : FVec Ideal S512x2048 .f32) (g : FVec Ideal S1x2048 .f32) (wg : FVec Ideal S2048x2048 .bf16) (p : FVec Ideal S512x256 .f32)
    (wp : FVec Ideal S256x2048 .bf16) (i : Fin 512) (j : Fin 2048) :
    k0_pay2 (F := Ideal) h f g wg p wp (ix2 i j) = _root_.Ple.mid (fun k => h (ix2 i k) + f (ix2 i k)) (fun k => g (ix2 0 k)) (fun q => p (ix2 i q))
      (fun k => wg (ix2 k j)) (fun q => wp (ix2 q j)) j := by
  pointwise [k0_pay2]
  rfl

/-- The windows' block indices at point `t` of the 64 row blocks. -/
theorem idx : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

theorem gain_row (c : Dev nD) : V m c main_v0 = (shapeCast S1x2048 (m ((c : Thread nD τ).loc main_arg3) : FVec Ideal S2048 .f32) shapeCasts_S2048_S1x2048 : FVec Ideal S1x2048 .f32) := by
  unfold V; after_results; try rfl

theorem gateWeights (c : Dev nD) : V m c main_v1 = (truncf .bf16 (m ((c : Thread nD τ).loc main_arg4) : FVec Ideal S2048x2048 .f32) bitsLt_bf16_f32 : FVec Ideal S2048x2048 .bf16) := by
  unfold V; after_results; try rfl

theorem projWeights (c : Dev nD) : V m c main_v2 = (truncf .bf16 (m ((c : Thread nD τ).loc main_arg5) : FVec Ideal S256x2048 .f32) bitsLt_bf16_f32 : FVec Ideal S256x2048 .bf16) := by
  unfold V; after_results; try rfl

theorem lastGain_row (c : Dev nD) : V m c main_v3 = (shapeCast S1x2048 (m ((c : Thread nD τ).loc main_arg6) : FVec Ideal S2048 .f32) shapeCasts_S2048_S1x2048 : FVec Ideal S1x2048 .f32) := by
  unfold V; after_results; try rfl

theorem row_lt (t : Fin cfg0.N) (r : Fin 512) : 512 * t.val + r.val < 32768 := by
  have h : cfg0.N = 64 := by decide
  have := t.isLt
  omega

theorem h_at (c : Dev nD) (t : Fin cfg0.N) (r : Fin 512) (k : Fin 2048) :
    iblk m c 0 t (ix2 r k) = m ((c : Thread nD τ).loc main_arg0) (ix2 ⟨512 * t.val + r.val, row_lt t r⟩ k) := by
  blk_ext [iblk, V, idx t]

theorem f_at (c : Dev nD) (t : Fin cfg0.N) (r : Fin 512) (k : Fin 2048) :
    iblk m c 1 t (ix2 r k) = m ((c : Thread nD τ).loc main_arg1) (ix2 ⟨512 * t.val + r.val, row_lt t r⟩ k) := by
  blk_ext [iblk, V, idx t]

theorem p_at (c : Dev nD) (t : Fin cfg0.N) (r : Fin 512) (k : Fin 256) :
    iblk m c 2 t (ix2 r k) = m ((c : Thread nD τ).loc main_arg2) (ix2 ⟨512 * t.val + r.val, row_lt t r⟩ k) := by
  blk_ext [iblk, V, idx t]

theorem gain (c : Dev nD) : V m c main_v0 = fun j : S1x2048.Idx => (m ((c : Thread nD τ).loc main_arg3) : FVec Ideal S2048 .f32) (ix1 (j 1)) := by
  rw [gain_row]; funext j; pointwise []

theorem gain_at (c : Dev nD) (t : Fin cfg0.N) (k : Fin 2048) :
    iblk m c 3 t (ix2 0 k) = m ((c : Thread nD τ).loc main_arg3) (ix1 k) := by
  have e : (win0_3.blk t).view.emb (ix2 0 k) = ix2 0 k := by blk_ext [idx t]
  exact (congrArg (V m c main_v0) e).trans (congrFun (gain m c) (ix2 0 k))

theorem gateWeights_at (c : Dev nD) (t : Fin cfg0.N) (k l : Fin 2048) :
    iblk m c 4 t (ix2 k l) = m ((c : Thread nD τ).loc main_arg4) (ix2 k l) := by
  blk_ext [iblk, gateWeights, idx t]

theorem projWeights_at (c : Dev nD) (t : Fin cfg0.N) (k : Fin 256) (l : Fin 2048) :
    iblk m c 5 t (ix2 k l) = m ((c : Thread nD τ).loc main_arg5) (ix2 k l) := by
  blk_ext [iblk, projWeights, idx t]

theorem lastGain (c : Dev nD) : V m c main_v3 = fun j : S1x2048.Idx => (m ((c : Thread nD τ).loc main_arg6) : FVec Ideal S2048 .f32) (ix1 (j 1)) := by
  rw [lastGain_row]; funext j; pointwise []

theorem lastGain_at (c : Dev nD) (t : Fin cfg0.N) (k : Fin 2048) :
    iblk m c 6 t (ix2 0 k) = m ((c : Thread nD τ).loc main_arg6) (ix1 k) := by
  have e : (win0_6.blk t).view.emb (ix2 0 k) = ix2 0 k := by blk_ext [idx t]
  exact (congrArg (V m c main_v3) e).trans (congrFun (lastGain m c) (ix2 0 k))

/-- The block a point leaves is the formula's rows. -/
theorem out_at (c : Dev nD) (t : Fin cfg0.N) (i : Fin 512) (j : Fin 2048) : (dats m 0 c).after 7 t (ix2 i j)
    = Cert.Reference4Ideal.Ple.REF (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 ⟨512 * t.val + i.val, row_lt t i⟩ j) := by
  refine Eq.trans ?_ (Cert.Reference4Ideal.Ple.REF_at _ _ _ _ _ _ _ _ _).symm
  rw [after0_7]
  frame_out
  refine (pay_rms _ _ i j).trans ?_
  simp only [pay_mid, h_at, f_at, p_at, gain_at, gateWeights_at, projWeights_at, lastGain_at]

/-- The result array after the run is the formula of the argument arrays. -/
theorem final (c : Dev nD) : (dats m 0 c).arrAt 7 (cfgs 0).N
    = Cert.Reference4Ideal.Ple.REF (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t hf y => ?_
  blk_simp
  have hi := (idx t).2.2.2.2.2.2.2
  have e : (win0_7.blk t).view.emb y = ix2 ⟨512 * t.val + (y 0).val, row_lt t (y 0)⟩ (y 1) := by blk_ext [hi]
  have ey : y = ix2 (y 0) (y 1) := by blk_ext []
  rw [e]
  exact (congrArg ((dats m 0 c).after 7 t) ey).trans (out_at m c t (y 0) (y 1))

end Cert.Kernel4Ideal.Ple

end
-- ==== Proof.InprojScan.lean ====
/- The input projection's gates: the running sums of a chunk's 64 rows, as the tiled kernel takes them (eight rows by
   three shifted additions, then the eight-row groups one after another), are the sums of the rows up to each row, or
   from each row on. -/
module

public import proofs.«01_k».proof.Proof.Gen.Kernel5Ideal.Frame
public import Idealize.ShloMosaic.Lib.Pipeline.ValueKit

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen

/-- One shifted addition inside each group of eight rows: to the rows from `n` on, the row `n` above is added. -/
def stepF (n : BitVec 32) (x : FVec Ideal S16x8x512 .f32) : FVec Ideal S16x8x512 .f32 :=
  addf x (select (cmpi .sge (iota .tc S16x8x512 32 [1] iota_S16x8x512_d1_w32) (broadcast S16x8x512 n))
    (dynamicRotate 1 n none x rotates_S16x8x512_d1) (broadcast S16x8x512 (Scalar.ofBits .f32 0x00000000#32)))

/-- The same downwards: to the rows before `n`, the row `8 - n` below is added. -/
def stepB (n : BitVec 32) (x : FVec Ideal S16x8x512 .f32) : FVec Ideal S16x8x512 .f32 :=
  addf x (select (cmpi .slt (iota .tc S16x8x512 32 [1] iota_S16x8x512_d1_w32) (broadcast S16x8x512 n))
    (dynamicRotate 1 n none x rotates_S16x8x512_d1) (broadcast S16x8x512 (Scalar.ofBits .f32 0x00000000#32)))

/-- The running sums inside each group of eight rows, downwards the columns. -/
def groupF (x : FVec Ideal S128x512 .f32) : FVec Ideal S16x8x512 .f32 :=
  stepF 4#32 (stepF 2#32 (stepF 1#32 (shapeCast S16x8x512 x shapeCasts_S128x512_S16x8x512)))

/-- The running sums inside each group of eight rows, upwards the columns. -/
def groupB (x : FVec Ideal S128x512 .f32) : FVec Ideal S16x8x512 .f32 :=
  stepB 4#32 (stepB 6#32 (stepB 7#32 (shapeCast S16x8x512 x shapeCasts_S128x512_S16x8x512)))

/-- One group of eight rows. -/
def tile (s : FVec Ideal S16x8x512 .f32) (o : Fin 3 → Nat) (h : S16x8x512.Slices o S1x8x512) : FVec Ideal S8x512 .f32 :=
  shapeCast S8x512 (extractStridedSlice S1x8x512 o s h) shapeCasts_S1x8x512_S8x512

/-- A group's last row, its sum. -/
def last (t : FVec Ideal S8x512 .f32) : FVec Ideal S1x512 .f32 := extractStridedSlice S1x512 ![7, 0] t slices_S8x512_o7_0_S1x512

/-- A group's first row, its sum when the sums run upwards. -/
def first (t : FVec Ideal S8x512 .f32) : FVec Ideal S1x512 .f32 := extractStridedSlice S1x512 ![0, 0] t slices_S8x512_o0_0_S1x512

/-- A group with the sum of the groups before it added to each row. -/
def carried (t : FVec Ideal S8x512 .f32) (c : FVec Ideal S1x512 .f32) : FVec Ideal S8x512 .f32 :=
  addf t (broadcastTo S8x512 c broadcasts_S1x512_S8x512)

/-- The sum of the first `n + 1` of eight groups, from their own sums. -/
def carry (e : Fin 8 → FVec Ideal S1x512 .f32) : Nat → FVec Ideal S1x512 .f32
  | 0 => e 0
  | n + 1 => addf (carry e n) (e (Fin.ofNat 8 (n + 1)))

/-- Sixteen groups of eight rows, one below another. -/
def stack (t : Fin 16 → FVec Ideal S8x512 .f32) : FVec Ideal S128x512 .f32 :=
  concatenate S128x512 0 (List.ofFn fun n : Fin 16 => (⟨S8x512, t n⟩ : (s : Shape) × (s.Idx → EReal))) concatenates_S8x512_S8x512_S8x512_S8x512_S8x512_S8x512_S8x512_S8x512_S8x512_S8x512_S8x512_S8x512_S8x512_S8x512_S8x512_S8x512_S128x512_d0

theorem group_slices (j : Fin 16) : S16x8x512.Slices ![j.val, 0, 0] S1x8x512 :=
  ⟨rfl, fun a => match a with
    | 0 => Nat.succ_le_of_lt j.isLt
    | 1 => Nat.le_refl 8
    | 2 => Nat.le_refl 512⟩

/-- The sixteen groups of an array of running sums. -/
def groups (s : FVec Ideal S16x8x512 .f32) (j : Fin 16) : FVec Ideal S8x512 .f32 := tile s ![j.val, 0, 0] (group_slices j)

/-- The sums of the first `n + 1` groups of chunk `a`. -/
def sumF (t : Fin 16 → FVec Ideal S8x512 .f32) (a : Nat) : Nat → FVec Ideal S1x512 .f32 := carry fun g => last (t (Fin.ofNat 16 (8 * a + g.val)))

/-- The sums of the last `n + 1` groups of chunk `a`. -/
def sumB (t : Fin 16 → FVec Ideal S8x512 .f32) (a : Nat) : Nat → FVec Ideal S1x512 .f32 := carry fun g => first (t (Fin.ofNat 16 (8 * a + (7 - g.val))))

/-- Group `j` of the result: a chunk's first group as it is, a later one with the sum of the groups before it. -/
def partF (t : Fin 16 → FVec Ideal S8x512 .f32) (j : Fin 16) : FVec Ideal S8x512 .f32 :=
  match j.val % 8 with
  | 0 => t j
  | n + 1 => carried (t j) (sumF t (j.val / 8) n)

/-- Group `j` of the result: a chunk's last group as it is, an earlier one with the sum of the groups after it. -/
def partB (t : Fin 16 → FVec Ideal S8x512 .f32) (j : Fin 16) : FVec Ideal S8x512 .f32 :=
  match 7 - j.val % 8 with
  | 0 => t j
  | n + 1 => carried (t j) (sumB t (j.val / 8) n)

/-- The running sums of two chunks of 64 rows. -/
def cumF (x : FVec Ideal S128x512 .f32) : FVec Ideal S128x512 .f32 := stack (partF (groups (groupF x)))

/-- The running sums of two chunks of 64 rows, from each chunk's last row. -/
def cumB (x : FVec Ideal S128x512 .f32) : FVec Ideal S128x512 .f32 := stack (partB (groups (groupB x)))

/-- The logistic function of 128 rows' projection. -/
def sigV (xb : FVec Ideal S256x2048 .bf16) (o : Fin 2 → Nat) (h : S256x2048.Slices o S128x2048) (w : FVec Ideal S2048x512 .bf16) : FVec Ideal S128x512 .f32 :=
  divf (broadcast S128x512 (Scalar.ofBits .f32 0x3F800000#32)) (addf (broadcast S128x512 (Scalar.ofBits .f32 0x3F800000#32))
    (exp (subf (broadcast S128x512 (Scalar.ofBits .f32 0x00000000#32))
      (matmul dot_S128x2048_S2048x512_S128x512_1_0_0_1_n_n none (extractStridedSlice S128x2048 o xb h) (shapeCast S2048x512 w shapeCasts_S2048x512_S2048x512) (constant S128x512 .f32 0x00000000#32)))))

/-- One less the lower bounds, in each row. -/
def restV (lb : FVec Ideal S1x512 .f32) : FVec Ideal S128x512 .f32 :=
  broadcastTo S128x512 (subf (broadcast S1x512 (Scalar.ofBits .f32 0x3F800000#32)) (shapeCast S1x512 lb shapeCasts_S1x512_S1x512)) broadcasts_S1x512_S128x512

/-- The gates' logarithms to the base 2. -/
def logV (lb : FVec Ideal S1x512 .f32) (g : FVec Ideal S128x512 .f32) : FVec Ideal S128x512 .f32 :=
  mulf (log (addf (broadcastTo S128x512 (shapeCast S1x512 lb shapeCasts_S1x512_S1x512) broadcasts_S1x512_S128x512) (mulf (restV lb) g)))
    (broadcast S128x512 (Named.named κ "log2e" 0x3FB8AA3B#32))

/-- The keys: one less the gates. -/
def keyV (lb : FVec Ideal S1x512 .f32) (g : FVec Ideal S128x512 .f32) : FVec Ideal S128x512 .f32 :=
  mulf (restV lb) (subf (broadcast S128x512 (Scalar.ofBits .f32 0x3F800000#32)) g)

theorem stepF_at (n : Nat) (hn : n = 1 ∨ n = 2 ∨ n = 4) (x : FVec Ideal S16x8x512 .f32) (g : Fin 16) (e : Fin 8) (c : Fin 512) :
    stepF (BitVec.ofNat 32 n) x (ix3 g e c) = x (ix3 g e c) + if n ≤ e.val then x (ix3 g ⟨(e.val + 8 - n) % 8, by omega⟩ c) else 0 := by
  have h : IntOp.cmpi .sge (BitVec.ofNat 32 e.val) (BitVec.ofNat 32 n) = if n ≤ e.val then 1#1 else 0#1 := by
    rcases hn with rfl | rfl | rfl <;> revert e <;> decide
  rcases hn with rfl | rfl | rfl <;> pointwise [stepF] <;> rw [h] <;> split <;> rfl

theorem stepB_at (n : Nat) (hn : n = 7 ∨ n = 6 ∨ n = 4) (x : FVec Ideal S16x8x512 .f32) (g : Fin 16) (e : Fin 8) (c : Fin 512) :
    stepB (BitVec.ofNat 32 n) x (ix3 g e c) = x (ix3 g e c) + if e.val < n then x (ix3 g ⟨(e.val + 8 - n) % 8, by omega⟩ c) else 0 := by
  have h : IntOp.cmpi .slt (BitVec.ofNat 32 e.val) (BitVec.ofNat 32 n) = if e.val < n then 1#1 else 0#1 := by
    rcases hn with rfl | rfl | rfl <;> revert e <;> decide
  rcases hn with rfl | rfl | rfl <;> pointwise [stepB] <;> rw [h] <;> split <;> rfl

theorem stack_at (t : Fin 16 → FVec Ideal S8x512 .f32) (r : Fin 128) (c : Fin 512) :
    stack t (ix2 r c) = t ⟨r.val / 8, by omega⟩ (ix2 ⟨r.val % 8, by omega⟩ c) :=
  concatenate_ofFn_apply (t := S128x512) (s₁ := S8x512) 0 t _ rfl 8 rfl (ix2 r c) ⟨r.val / 8, by omega⟩ rfl (ix2 ⟨r.val % 8, by omega⟩ c) rfl
    fun b hb => match b with
      | 0 => absurd rfl hb
      | 1 => rfl

theorem groups_at (s : FVec Ideal S16x8x512 .f32) (j : Fin 16) (e : Fin 8) (c : Fin 512) : groups s j (ix2 e c) = s (ix3 j e c) := by
  pointwise [groups, tile]

theorem last_at (t : FVec Ideal S8x512 .f32) (c : Fin 512) : last t (ix2 0 c) = t (ix2 7 c) := by
  pointwise [last]

theorem first_at (t : FVec Ideal S8x512 .f32) (c : Fin 512) : first t (ix2 0 c) = t (ix2 0 c) := by
  pointwise [first]

theorem carried_at (t : FVec Ideal S8x512 .f32) (s : FVec Ideal S1x512 .f32) (e : Fin 8) (c : Fin 512) :
    carried t s (ix2 e c) = t (ix2 e c) + s (ix2 0 c) := by
  pointwise [carried]

theorem sig_at (xb : FVec Ideal S256x2048 .bf16) (o : Fin 2) (h : S256x2048.Slices ![128 * o.val, 0] S128x2048) (w : FVec Ideal S2048x512 .bf16) (r : Fin 128) (c : Fin 512) :
    sigV xb ![128 * o.val, 0] h w (ix2 r c)
      = Ideal.div 1 (1 + Ideal.exp (0 - ∑ k : Fin 2048, xb (ix2 ⟨128 * o.val + r.val, by omega⟩ k) * w (ix2 k c))) := by
  pointwise [sigV]

theorem log_at (lb : FVec Ideal S1x512 .f32) (g : FVec Ideal S128x512 .f32) (r : Fin 128) (c : Fin 512) :
    logV lb g (ix2 r c) = Ideal.log (lb (ix2 0 c) + (1 - lb (ix2 0 c)) * g (ix2 r c)) * (((Real.log 2)⁻¹ : ℝ) : EReal) := by
  pointwise [logV, restV]
  rfl

theorem key_at (lb : FVec Ideal S1x512 .f32) (g : FVec Ideal S128x512 .f32) (r : Fin 128) (c : Fin 512) :
    keyV lb g (ix2 r c) = (1 - lb (ix2 0 c)) * (1 - g (ix2 r c)) := by
  pointwise [keyV, restV]

theorem base_at (x : FVec Ideal S128x512 .f32) (g : Fin 16) (e : Fin 8) (c : Fin 512) :
    shapeCast S16x8x512 x shapeCasts_S128x512_S16x8x512 (ix3 g e c) = x (ix2 ⟨8 * g.val + e.val, by omega⟩ c) := by
  pointwise []
  refine congrArg x ?_
  blk_ext []

/-- Inside a group the three shifted additions sum the rows up to each row. -/
theorem groupF_at (x : FVec Ideal S128x512 .f32) (g : Fin 16) (e : Fin 8) (c : Fin 512) (f : Nat → EReal)
    (hf : ∀ i : Fin 8, x (ix2 ⟨8 * g.val + i.val, by omega⟩ c) = f i.val) : groupF x (ix3 g e c) = ∑ i ∈ Finset.range (e.val + 1), f i := by
  have h0 (e : Fin 8) : shapeCast S16x8x512 x shapeCasts_S128x512_S16x8x512 (ix3 g e c) = f e.val := (base_at x g e c).trans (hf e)
  have h1 := fun e => stepF_at 1 (.inl rfl) (shapeCast S16x8x512 x shapeCasts_S128x512_S16x8x512) g e c
  have h2 := fun e => stepF_at 2 (.inr (.inl rfl)) (stepF (BitVec.ofNat 32 1) (shapeCast S16x8x512 x shapeCasts_S128x512_S16x8x512)) g e c
  have h3 := fun e => stepF_at 4 (.inr (.inr rfl)) (stepF (BitVec.ofNat 32 2) (stepF (BitVec.ofNat 32 1) (shapeCast S16x8x512 x shapeCasts_S128x512_S16x8x512))) g e c
  refine (h3 e).trans ?_
  simp only [h2, h1, h0]
  clear h0 h1 h2 h3 hf
  obtain ⟨e, he⟩ := e
  interval_cases e <;> simp [Finset.sum_range_succ] <;> abel

/-- Inside a group the three shifted additions sum the rows from each row on. -/
theorem groupB_at (x : FVec Ideal S128x512 .f32) (g : Fin 16) (e : Fin 8) (c : Fin 512) (f : Nat → EReal)
    (hf : ∀ i : Fin 8, x (ix2 ⟨8 * g.val + i.val, by omega⟩ c) = f (7 - i.val)) : groupB x (ix3 g e c) = ∑ i ∈ Finset.range (8 - e.val), f i := by
  have h0 (e : Fin 8) : shapeCast S16x8x512 x shapeCasts_S128x512_S16x8x512 (ix3 g e c) = f (7 - e.val) := (base_at x g e c).trans (hf e)
  have h1 := fun e => stepB_at 7 (.inl rfl) (shapeCast S16x8x512 x shapeCasts_S128x512_S16x8x512) g e c
  have h2 := fun e => stepB_at 6 (.inr (.inl rfl)) (stepB (BitVec.ofNat 32 7) (shapeCast S16x8x512 x shapeCasts_S128x512_S16x8x512)) g e c
  have h3 := fun e => stepB_at 4 (.inr (.inr rfl)) (stepB (BitVec.ofNat 32 6) (stepB (BitVec.ofNat 32 7) (shapeCast S16x8x512 x shapeCasts_S128x512_S16x8x512))) g e c
  refine (h3 e).trans ?_
  simp only [h2, h1, h0]
  clear h0 h1 h2 h3 hf
  obtain ⟨e, he⟩ := e
  interval_cases e <;> simp [Finset.sum_range_succ] <;> abel

/-- Eight groups' sums, added up one after another, sum the rows of the first `n + 1` groups. -/
theorem carry_at (e : Fin 8 → FVec Ideal S1x512 .f32) (c : Fin 512) (f : Nat → EReal)
    (he : ∀ g : Fin 8, e g (ix2 0 c) = ∑ i ∈ Finset.range 8, f (8 * g.val + i)) :
    ∀ n, n < 8 → carry e n (ix2 0 c) = ∑ i ∈ Finset.range (8 * (n + 1)), f i
  | 0, _ => (he 0).trans (Finset.sum_congr rfl fun i _ => congrArg f (Nat.zero_add i))
  | n + 1, h => by
    have ih := carry_at e c f he n (by omega)
    have hg := he (Fin.ofNat 8 (n + 1))
    rw [show (Fin.ofNat 8 (n + 1)).val = n + 1 from Nat.mod_eq_of_lt h] at hg
    refine (congrArg₂ (· + ·) ih hg).trans ?_
    rw [show 8 * (n + 1 + 1) = 8 * (n + 1) + 8 by omega, Finset.sum_range_add]

/-- A chunk's groups of running sums, carried on, are the running sums of the chunk. -/
theorem partF_at (t : Fin 16 → FVec Ideal S8x512 .f32) (j : Fin 16) (e : Fin 8) (c : Fin 512) (f : Nat → EReal)
    (ht : ∀ (g e : Fin 8), t (Fin.ofNat 16 (8 * (j.val / 8) + g.val)) (ix2 e c) = ∑ i ∈ Finset.range (e.val + 1), f (8 * g.val + i)) :
    partF t j (ix2 e c) = ∑ i ∈ Finset.range (8 * (j.val % 8) + (e.val + 1)), f i := by
  have hj : Fin.ofNat 16 (8 * (j.val / 8) + j.val % 8) = j := Fin.ext (by dsimp [Fin.ofNat]; omega)
  have hs := carry_at (fun g => last (t (Fin.ofNat 16 (8 * (j.val / 8) + g.val)))) c f (fun g => (last_at _ c).trans (ht g 7))
  have hte := ht ⟨j.val % 8, by omega⟩ e
  dsimp only at hte
  rw [hj] at hte
  unfold partF
  rcases hn : j.val % 8 with _ | n
  · rw [hn] at hte
    rw [Nat.mul_zero, Nat.zero_add]
    exact hte.trans (Finset.sum_congr rfl fun i _ => congrArg f (by omega))
  · rw [hn] at hte
    refine (carried_at _ _ e c).trans ((congrArg₂ (· + ·) hte (hs n (by omega))).trans ?_)
    exact (add_comm _ _).trans (Finset.sum_range_add f (8 * (n + 1)) _).symm

/-- The same from the chunk's last row. -/
theorem partB_at (t : Fin 16 → FVec Ideal S8x512 .f32) (j : Fin 16) (e : Fin 8) (c : Fin 512) (f : Nat → EReal)
    (ht : ∀ (g e : Fin 8), t (Fin.ofNat 16 (8 * (j.val / 8) + (7 - g.val))) (ix2 e c) = ∑ i ∈ Finset.range (8 - e.val), f (8 * g.val + i)) :
    partB t j (ix2 e c) = ∑ i ∈ Finset.range (8 * (7 - j.val % 8) + (8 - e.val)), f i := by
  have hj : Fin.ofNat 16 (8 * (j.val / 8) + (7 - (7 - j.val % 8))) = j := Fin.ext (by dsimp [Fin.ofNat]; omega)
  have hs := carry_at (fun g => first (t (Fin.ofNat 16 (8 * (j.val / 8) + (7 - g.val))))) c f (fun g => (first_at _ c).trans (ht g 0))
  have hte := ht ⟨7 - j.val % 8, by omega⟩ e
  dsimp only at hte
  rw [hj] at hte
  unfold partB
  rcases hn : 7 - j.val % 8 with _ | n
  · rw [hn] at hte
    rw [Nat.mul_zero, Nat.zero_add]
    exact hte.trans (Finset.sum_congr rfl fun i _ => congrArg f (by omega))
  · rw [hn] at hte
    refine (carried_at _ _ e c).trans ((congrArg₂ (· + ·) hte (hs n (by omega))).trans ?_)
    exact (add_comm _ _).trans (Finset.sum_range_add f (8 * (n + 1)) _).symm

/-- The rows up to row `q` of 64. -/
theorem sum_upto (f : Fin 64 → EReal) (q : Nat) (hq : q < 64) :
    ∑ i ∈ Finset.range (q + 1), (if h : i < 64 then f ⟨i, h⟩ else 0) = ∑ i : Fin 64, if i.val ≤ q then f i else 0 := by
  have e (i : Fin 64) : (if i.val ≤ q then f i else 0) = (fun n : Nat => if n ≤ q then (if h : n < 64 then f ⟨n, h⟩ else 0) else 0) i.val := by
    dsimp only
    rw [dif_pos i.isLt]
  rw [Finset.sum_congr rfl fun i _ => e i, Fin.sum_univ_eq_sum_range (fun n : Nat => if n ≤ q then (if h : n < 64 then f ⟨n, h⟩ else 0) else 0) 64,
    ← Finset.sum_filter]
  refine Finset.sum_congr (Finset.ext fun n => ?_) fun _ _ => rfl
  rw [Finset.mem_range, Finset.mem_filter, Finset.mem_range]
  omega

/-- The rows from row `q` of 64 on. -/
theorem sum_from (f : Fin 64 → EReal) (q : Nat) (hq : q < 64) :
    ∑ i ∈ Finset.range (64 - q), (if h : 63 - i < 64 then f ⟨63 - i, h⟩ else 0) = ∑ i : Fin 64, if q ≤ i.val then f i else 0 := by
  have e (i : Fin 64) : (if q ≤ i.val then f i else 0) = (fun n : Nat => if q ≤ n then (if h : n < 64 then f ⟨n, h⟩ else 0) else 0) i.val := by
    dsimp only
    rw [dif_pos i.isLt]
  rw [Finset.sum_congr rfl fun i _ => e i, Fin.sum_univ_eq_sum_range (fun n : Nat => if q ≤ n then (if h : n < 64 then f ⟨n, h⟩ else 0) else 0) 64,
    ← Finset.sum_range_reflect (fun n : Nat => if q ≤ n then (if h : n < 64 then f ⟨n, h⟩ else 0) else 0) 64, ← Finset.sum_filter]
  refine Finset.sum_congr (Finset.ext fun n => ?_) fun i _ => by rw [show 64 - 1 - i = 63 - i by omega]
  rw [Finset.mem_range, Finset.mem_filter, Finset.mem_range]
  omega

/-- The running sums at row `r`: the rows of its chunk up to it. -/
theorem cumF_at (x : FVec Ideal S128x512 .f32) (r : Fin 128) (c : Fin 512) :
    cumF x (ix2 r c) = ∑ i : Fin 64, if i.val ≤ r.val % 64 then x (ix2 ⟨64 * (r.val / 64) + i.val, by omega⟩ c) else 0 := by
  refine Eq.trans ?_ (sum_upto (fun i => x (ix2 ⟨64 * (r.val / 64) + i.val, by omega⟩ c)) (r.val % 64) (by omega))
  unfold cumF
  rw [stack_at]
  refine (partF_at _ _ _ c (fun i => if h : i < 64 then x (ix2 ⟨64 * (r.val / 64) + i, by omega⟩ c) else 0) fun g e => ?_).trans ?_
  · rw [groups_at]
    refine groupF_at x _ e c _ fun i => ?_
    rw [dif_pos (by omega)]
    refine congrArg (fun k => x (ix2 k c)) (Fin.ext ?_)
    dsimp [Fin.ofNat]
    omega
  · dsimp only
    rw [show 8 * (r.val / 8 % 8) + (r.val % 8 + 1) = r.val % 64 + 1 by omega]

/-- The running sums from the end, at row `r`: the rows of its chunk from it on. -/
theorem cumB_at (x : FVec Ideal S128x512 .f32) (r : Fin 128) (c : Fin 512) :
    cumB x (ix2 r c) = ∑ i : Fin 64, if r.val % 64 ≤ i.val then x (ix2 ⟨64 * (r.val / 64) + i.val, by omega⟩ c) else 0 := by
  refine Eq.trans ?_ (sum_from (fun i => x (ix2 ⟨64 * (r.val / 64) + i.val, by omega⟩ c)) (r.val % 64) (by omega))
  unfold cumB
  rw [stack_at]
  refine (partB_at _ _ _ c (fun i => if h : 63 - i < 64 then x (ix2 ⟨64 * (r.val / 64) + (63 - i), by omega⟩ c) else 0) fun g e => ?_).trans ?_
  · rw [groups_at]
    refine groupB_at x _ e c _ fun i => ?_
    rw [dif_pos (by omega)]
    refine congrArg (fun k => x (ix2 k c)) (Fin.ext ?_)
    dsimp [Fin.ofNat]
    omega
  · dsimp only
    rw [show 8 * (7 - r.val / 8 % 8) + (8 - r.val % 8) = 64 - r.val % 64 by omega]

section
variable (x0 : Vec Ideal S256x2048 .f32) (x1 : Vec Ideal S1x2048 .f32) (x2 : Vec Ideal S2048x7168 .bf16) (x3 x4 x5 x6 : Vec Ideal S1x1024 .f32)
  (x7 : Vec Ideal S8x128x128 .bf16) (x8 : Vec Ideal S8x128x1 .f32) (x9 : Vec Ideal S1x1024 .f32)

theorem cum_f0 : k0_pay423 x0 x1 x2 x3 x4 x5 x6 x7 x8 x9
    = cumF (logV (View.ld x3 r0_23) (sigV (k0_pay400 x0 x1 x2 x3 x4 x5 x6 x7 x8 x9) ![0, 0] slices_S256x2048_o0_0_S128x2048 (View.ld x2 r0_24))) := rfl

theorem cum_f1 : k0_pay442 x0 x1 x2 x3 x4 x5 x6 x7 x8 x9
    = cumF (logV (View.ld x3 r0_23) (sigV (k0_pay400 x0 x1 x2 x3 x4 x5 x6 x7 x8 x9) ![128, 0] slices_S256x2048_o128_0_S128x2048 (View.ld x2 r0_24))) := rfl

theorem cum_f2 : k0_pay462 x0 x1 x2 x3 x4 x5 x6 x7 x8 x9
    = cumF (logV (View.ld x3 r0_33) (sigV (k0_pay400 x0 x1 x2 x3 x4 x5 x6 x7 x8 x9) ![0, 0] slices_S256x2048_o0_0_S128x2048 (View.ld x2 r0_34))) := rfl

theorem cum_f3 : k0_pay193 (k0_pay466 x0 x1 x2 x3 x4 x5 x6 x7 x8 x9) (k0_pay467 x0 x1 x2 x3 x4 x5 x6 x7 x8 x9) (k0_pay468 x0 x1 x2 x3 x4 x5 x6 x7 x8 x9) (k0_pay469 x0 x1 x2 x3 x4 x5 x6 x7 x8 x9) (k0_pay472 x0 x1 x2 x3 x4 x5 x6 x7 x8 x9) (k0_pay473 x0 x1 x2 x3 x4 x5 x6 x7 x8 x9) (k0_pay474 x0 x1 x2 x3 x4 x5 x6 x7 x8 x9) (k0_pay475 x0 x1 x2 x3 x4 x5 x6 x7 x8 x9) (k0_pay476 x0 x1 x2 x3 x4 x5 x6 x7 x8 x9) (k0_pay477 x0 x1 x2 x3 x4 x5 x6 x7 x8 x9) (k0_pay478 x0 x1 x2 x3 x4 x5 x6 x7 x8 x9) (k0_pay479 x0 x1 x2 x3 x4 x5 x6 x7 x8 x9) (k0_pay480 x0 x1 x2 x3 x4 x5 x6 x7 x8 x9) (k0_pay481 x0 x1 x2 x3 x4 x5 x6 x7 x8 x9) (k0_pay482 x0 x1 x2 x3 x4 x5 x6 x7 x8 x9) (k0_pay483 x0 x1 x2 x3 x4 x5 x6 x7 x8 x9) (k0_pay484 x0 x1 x2 x3 x4 x5 x6 x7 x8 x9)
    = cumF (logV (View.ld x3 r0_33) (sigV (k0_pay400 x0 x1 x2 x3 x4 x5 x6 x7 x8 x9) ![128, 0] slices_S256x2048_o128_0_S128x2048 (View.ld x2 r0_34))) := rfl

theorem cum_b0 : k0_pay506 x0 x1 x2 x3 x4 x5 x6 x7 x8 x9
    = cumB (logV (View.ld x4 r0_23) (sigV (k0_pay400 x0 x1 x2 x3 x4 x5 x6 x7 x8 x9) ![0, 0] slices_S256x2048_o0_0_S128x2048 (View.ld x2 r0_52))) := rfl

theorem cum_b1 : k0_pay525 x0 x1 x2 x3 x4 x5 x6 x7 x8 x9
    = cumB (logV (View.ld x4 r0_23) (sigV (k0_pay400 x0 x1 x2 x3 x4 x5 x6 x7 x8 x9) ![128, 0] slices_S256x2048_o128_0_S128x2048 (View.ld x2 r0_52))) := rfl

theorem cum_b2 : k0_pay550 x0 x1 x2 x3 x4 x5 x6 x7 x8 x9
    = cumB (logV (View.ld x4 r0_33) (sigV (k0_pay400 x0 x1 x2 x3 x4 x5 x6 x7 x8 x9) ![0, 0] slices_S256x2048_o0_0_S128x2048 (View.ld x2 r0_53))) := rfl

theorem cum_b3 : k0_pay554 x0 x1 x2 x3 x4 x5 x6 x7 x8 x9
    = cumB (logV (View.ld x4 r0_33) (sigV (k0_pay400 x0 x1 x2 x3 x4 x5 x6 x7 x8 x9) ![128, 0] slices_S256x2048_o128_0_S128x2048 (View.ld x2 r0_53))) := rfl

theorem key_f0 : k0_pay424 x0 x1 x2 x3 x4 x5 x6 x7 x8 x9
    = keyV (View.ld x3 r0_23) (sigV (k0_pay400 x0 x1 x2 x3 x4 x5 x6 x7 x8 x9) ![0, 0] slices_S256x2048_o0_0_S128x2048 (View.ld x2 r0_24)) := rfl

theorem key_f1 : k0_pay443 x0 x1 x2 x3 x4 x5 x6 x7 x8 x9
    = keyV (View.ld x3 r0_23) (sigV (k0_pay400 x0 x1 x2 x3 x4 x5 x6 x7 x8 x9) ![128, 0] slices_S256x2048_o128_0_S128x2048 (View.ld x2 r0_24)) := rfl

theorem key_f2 : k0_pay463 x0 x1 x2 x3 x4 x5 x6 x7 x8 x9
    = keyV (View.ld x3 r0_33) (sigV (k0_pay400 x0 x1 x2 x3 x4 x5 x6 x7 x8 x9) ![0, 0] slices_S256x2048_o0_0_S128x2048 (View.ld x2 r0_34)) := rfl

theorem key_f3 : k0_pay485 x0 x1 x2 x3 x4 x5 x6 x7 x8 x9
    = keyV (View.ld x3 r0_33) (sigV (k0_pay400 x0 x1 x2 x3 x4 x5 x6 x7 x8 x9) ![128, 0] slices_S256x2048_o128_0_S128x2048 (View.ld x2 r0_34)) := rfl

theorem key_b0 : k0_pay507 x0 x1 x2 x3 x4 x5 x6 x7 x8 x9
    = keyV (View.ld x4 r0_23) (sigV (k0_pay400 x0 x1 x2 x3 x4 x5 x6 x7 x8 x9) ![0, 0] slices_S256x2048_o0_0_S128x2048 (View.ld x2 r0_52)) := rfl

theorem key_b1 : k0_pay526 x0 x1 x2 x3 x4 x5 x6 x7 x8 x9
    = keyV (View.ld x4 r0_23) (sigV (k0_pay400 x0 x1 x2 x3 x4 x5 x6 x7 x8 x9) ![128, 0] slices_S256x2048_o128_0_S128x2048 (View.ld x2 r0_52)) := rfl

theorem key_b2 : k0_pay551 x0 x1 x2 x3 x4 x5 x6 x7 x8 x9
    = keyV (View.ld x4 r0_33) (sigV (k0_pay400 x0 x1 x2 x3 x4 x5 x6 x7 x8 x9) ![0, 0] slices_S256x2048_o0_0_S128x2048 (View.ld x2 r0_53)) := rfl

theorem key_b3 : k0_pay371 (k0_pay527 x0 x1 x2 x3 x4 x5 x6 x7 x8 x9) (k0_pay552 x0 x1 x2 x3 x4 x5 x6 x7 x8 x9) (Scalar.ofBits .f32 0x3F800000#32)
    = keyV (View.ld x4 r0_33) (sigV (k0_pay400 x0 x1 x2 x3 x4 x5 x6 x7 x8 x9) ![128, 0] slices_S256x2048_o128_0_S128x2048 (View.ld x2 r0_53)) := rfl

end

end Cert.Kernel5Ideal.Inproj

end
-- ==== Proof.InprojForm.lean ====
/- The input projection's scalar formulas over the extended reals, and the identities by which the kernel's forms and
   the reference's agree. -/
module

public import proofs.«01_k».proof.Proof.Gen.Reference5Ideal.Run
public import Idealize.ShloMosaic.Lib.Pipeline.ValueKit
public import Idealize.ShloMosaic.PureOps.Ideal.Laws

@[expose] public section

noncomputable section

open Idealize.ShloMosaic

namespace Inproj

/-- One entry of a row divided by the row's root mean square, times its gain. -/
def rms {n : Nat} (len : BitVec 32) (x : Fin n → EReal) (g : EReal) (j : Fin n) : EReal :=
  x j * Ideal.rsqrt (Ideal.div (∑ k : Fin n, x k * x k) (Ideal.ofBits .f32 len) + Ideal.ofBits .f32 0x358637BD#32) * g

/-- One entry of the projection: the normalised row's product with a weight column. -/
def proj (x g w : Fin 2048 → EReal) : EReal := ∑ k : Fin 2048, rms 0x45000000#32 x (g k) k * w k

/-- The logistic function. -/
def sig (z : EReal) : EReal := Ideal.div 1 (1 + Ideal.exp (-z))

/-- `z` times its logistic function. -/
def silu (z : EReal) : EReal := z * sig z

/-- The base-2 logarithm of a forget gate with lower bound `lb`. -/
def glog (lb z : EReal) : EReal := Ideal.log (lb + (1 - lb) * sig z) * (((Real.log 2)⁻¹ : ℝ) : EReal)

/-- A key: what the gate does not keep. -/
def key (lb z : EReal) : EReal := (1 - lb) * sig (-z)

/-- The Gaussian error linear unit. -/
def gelu (z : EReal) : EReal := Ideal.ofBits .f32 0x3F000000#32 * z * (1 + Ideal.erf (z * Ideal.ofBits .f32 0x3F3504F3#32))

/-- A row less its mean. -/
def centred (x : Fin 1024 → EReal) (j : Fin 1024) : EReal :=
  x j - Ideal.div (∑ k : Fin 1024, x k) (Ideal.ofBits .f32 0x44800000#32)

/-- One entry of a row's layer normalisation. -/
def lnorm (x : Fin 1024 → EReal) (g b : EReal) (j : Fin 1024) : EReal := rms 0x44800000#32 (centred x) g j + b

/-- One entry of the gated features before their last normalisation: `u` through its unit, times the mix of a
    head's 128 rows (the columns `v` of the chunk's normalised features) with the head's row of mixing weights. -/
def mix (u : EReal) (w v : Fin 128 → EReal) (b : EReal) : EReal := gelu u * (∑ k : Fin 128, w k * v k + b)

theorem sig_bot : sig ⊥ = 0 := by
  change Ideal.div 1 (1 + ⊤) = 0
  have e : (1 : EReal) + ⊤ = ⊤ := EReal.coe_add_top 1
  simp [Ideal.div, e]

theorem sig_top : sig ⊤ = 1 := by
  change Ideal.div 1 (1 + 0) = 1
  simp [Ideal.div]

/-- One minus the logistic function is the logistic function of the negative, at the infinities too. -/
theorem one_sub_sig (z : EReal) : 1 - sig z = sig (-z) := by
  induction z with
  | bot => simp [sig_bot, sig_top]
  | top =>
    simp only [sig_bot, sig_top, EReal.neg_top]
    exact EReal.sub_self (by decide) (by decide)
  | coe r =>
    unfold sig
    rw [neg_neg, ← EReal.coe_neg]
    change 1 - Ideal.div 1 (1 + ((Real.exp (-r) : ℝ) : EReal)) = Ideal.div 1 (1 + ((Real.exp r : ℝ) : EReal))
    have p : 0 < Real.exp r := Real.exp_pos r
    have q : 0 < Real.exp (-r) := Real.exp_pos (-r)
    have e : Real.exp (-r) * Real.exp r = 1 := by rw [← Real.exp_add]; simp
    have d (t : ℝ) (ht : 0 < t) : Ideal.div 1 (1 + (t : EReal)) = (((1 + t)⁻¹ : ℝ) : EReal) := by
      have : (1 : EReal) + (t : EReal) = ((1 + t : ℝ) : EReal) := by push_cast; rfl
      rw [this, Ideal.div, if_neg (by rw [EReal.coe_eq_zero]; linarith), one_mul, EReal.coe_inv]
    rw [d _ q, d _ p, ← EReal.coe_one, ← EReal.coe_sub, EReal.coe_eq_coe_iff]
    have : (1 + Real.exp (-r)) ≠ 0 := by linarith
    have : (1 + Real.exp r) ≠ 0 := by linarith
    field_simp
    nlinarith [e]

theorem two : Ideal.ofBits .f32 0x40000000#32 = ((2 : ℝ) : EReal) := by
  simp [Ideal.ofBits, Ideal.ieee]
  rw [← EReal.coe_mul]
  norm_num

theorem log_two (x : EReal) : Ideal.div x (Ideal.log (Ideal.ofBits .f32 0x40000000#32)) = x * (((Real.log 2)⁻¹ : ℝ) : EReal) := by
  have p : 0 < Real.log 2 := Real.log_pos (by norm_num)
  have e : Ideal.log (Ideal.ofBits .f32 0x40000000#32) = ((Real.log 2 : ℝ) : EReal) := by
    rw [two]
    exact if_neg (by norm_num)
  rw [e, Ideal.div, if_neg (by rw [EReal.coe_eq_zero]; exact p.ne'), EReal.coe_inv]

theorem gelu_erfc (z : EReal) :
    Ideal.ofBits .f32 0x3F000000#32 * z * Ideal.erfc (-z * Ideal.ofBits .f32 0x3F3504F3#32) = gelu z := by
  rw [neg_mul, Ideal.erfc_neg, gelu]

end Inproj

end
-- ==== Proof.InprojGates.lean ====
/- The input projection's gates, block by block: what the tiled kernel leaves in its four gate arrays, over the blocks it reads. -/
module

public import proofs.«01_k».proof.Proof.InprojScan
public import proofs.«01_k».proof.Proof.InprojForm
public import Idealize.ShloMosaic.Lib.Pipeline.ValueKit

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen

/-- A row of the normalised block times a weight column. -/
def zrow (xb : FVec Ideal S256x2048 .bf16) (w : Vec Ideal S2048x7168 .bf16) (r : Fin 256) (c : Fin 7168) : EReal :=
  ∑ k : Fin 2048, xb (ix2 r k) * w (ix2 k c)

theorem head_slices (j : Fin 4) : S128x512.Slices ![0, 128 * j.val] S128x128 :=
  ⟨rfl, fun a => match a with
    | 0 => Nat.le_refl 128
    | 1 => show 128 * j.val + 128 ≤ 512 by omega⟩

/-- One head's 128 columns of a half's 512. -/
def headV (v : FVec Ideal S128x512 .f32) (j : Fin 4) : FVec Ideal S1x1x128x128 .f32 :=
  shapeCast S1x1x128x128 (extractStridedSlice S128x128 ![0, 128 * j.val] v (head_slices j)) shapeCasts_S128x128_S1x1x128x128

theorem headV_at (v : FVec Ideal S128x512 .f32) (j : Fin 4) (z : S1x1x128x128.Idx) :
    headV v j z = v (ix2 (z 2) ⟨128 * j.val + (z 3).val, by have : (z 3).val < 128 := (z 3).isLt; omega⟩) := by
  have e : z = ix4 0 0 (z 2) (z 3) := by blk_ext []
  rw [e]
  pointwise [headV]

theorem bounds_ld (x : Vec Ideal S1x1024 .f32) (ch : Fin 2) (inb : ∀ a, ![0, 512 * ch.val] a + S1x512.size a ≤ S1x1024.size a) (c : Fin 512) :
    View.ld x (Rect.unit (s := S1x1024) ![0, 512 * ch.val] S1x512.size inb) (ix2 0 c) = x (ix2 0 ⟨512 * ch.val + c.val, by omega⟩) := by
  refine congrArg x ?_
  blk_ext [Rect.idx_unit_val]

theorem weights_ld (w : Vec Ideal S2048x7168 .bf16) (b : Nat) (ch : Fin 2) (inb : ∀ a, ![0, b + 512 * ch.val] a + S2048x512.size a ≤ S2048x7168.size a)
    (hb : b + 1024 ≤ 7168) (k : Fin 2048) (c : Fin 512) :
    View.ld w (Rect.unit (s := S2048x7168) ![0, b + 512 * ch.val] S2048x512.size inb) (ix2 k c) = w (ix2 k ⟨b + (512 * ch.val + c.val), by omega⟩) := by
  refine congrArg w ?_
  blk_ext [Rect.idx_unit_val]

section
variable {xb : FVec Ideal S256x2048 .bf16} {w : Vec Ideal S2048x7168 .bf16} {x : Vec Ideal S1x1024 .f32} {b : Nat}

theorem log_row {lb : FVec Ideal S1x512 .f32} {u : FVec Ideal S2048x512 .bf16} (hb : b + 1024 ≤ 7168) (ch o : Fin 2) {hs : S256x2048.Slices ![128 * o.val, 0] S128x2048}
    (hl : ∀ c, lb (ix2 0 c) = x (ix2 0 ⟨512 * ch.val + c.val, by omega⟩)) (hu : ∀ k c, u (ix2 k c) = w (ix2 k ⟨b + (512 * ch.val + c.val), by omega⟩))
    (r : Fin 128) (c : Fin 512) : logV lb (sigV xb ![128 * o.val, 0] hs u) (ix2 r c)
      = _root_.Inproj.glog (x (ix2 0 ⟨512 * ch.val + c.val, by omega⟩)) (zrow xb w ⟨128 * o.val + r.val, by omega⟩ ⟨b + (512 * ch.val + c.val), by omega⟩) := by
  rw [log_at, sig_at]
  simp only [hl, hu, _root_.Inproj.glog, _root_.Inproj.sig, zrow, zero_sub]

theorem key_row {lb : FVec Ideal S1x512 .f32} {u : FVec Ideal S2048x512 .bf16} (hb : b + 1024 ≤ 7168) (ch o : Fin 2) {hs : S256x2048.Slices ![128 * o.val, 0] S128x2048}
    (hl : ∀ c, lb (ix2 0 c) = x (ix2 0 ⟨512 * ch.val + c.val, by omega⟩)) (hu : ∀ k c, u (ix2 k c) = w (ix2 k ⟨b + (512 * ch.val + c.val), by omega⟩))
    (r : Fin 128) (c : Fin 512) : keyV lb (sigV xb ![128 * o.val, 0] hs u) (ix2 r c)
      = _root_.Inproj.key (x (ix2 0 ⟨512 * ch.val + c.val, by omega⟩)) (zrow xb w ⟨128 * o.val + r.val, by omega⟩ ⟨b + (512 * ch.val + c.val), by omega⟩) := by
  rw [key_at, sig_at]
  rw [hl, zero_sub]
  simp only [hu]
  exact congrArg ((1 - x _) * ·) (_root_.Inproj.one_sub_sig _)

/-- One stored piece of the running sums: head `h`'s 128 columns of 128 rows. -/
theorem cumF_piece {lb : FVec Ideal S1x512 .f32} {u : FVec Ideal S2048x512 .bf16} (hb : b + 1024 ≤ 7168) (ch o : Fin 2) (j : Fin 4) {hs : S256x2048.Slices ![128 * o.val, 0] S128x2048}
    {v : FVec Ideal S128x512 .f32} {p : FVec Ideal S1x1x128x128 .f32} (hp : p = headV v j) (hv : v = cumF (logV lb (sigV xb ![128 * o.val, 0] hs u)))
    (hl : ∀ c, lb (ix2 0 c) = x (ix2 0 ⟨512 * ch.val + c.val, by omega⟩)) (hu : ∀ k c, u (ix2 k c) = w (ix2 k ⟨b + (512 * ch.val + c.val), by omega⟩))
    {z : S1x1x128x128.Idx} {h : Fin 8} {r : Fin 256} {d : Fin 128} (h1 : h.val = 4 * ch.val + j.val)
    (h2 : r.val = 128 * o.val + (z 2).val) (h3 : d.val = (z 3).val) : p z = ∑ i : Fin 64, if i.val ≤ r.val % 64 then
      _root_.Inproj.glog (x (ix2 0 ⟨128 * h.val + d.val, by omega⟩)) (zrow xb w ⟨64 * (r.val / 64) + i.val, by omega⟩ ⟨b + (128 * h.val + d.val), by omega⟩) else 0 := by
  have z2 : (z 2).val < 128 := (z 2).isLt
  have z3 : (z 3).val < 128 := (z 3).isLt
  subst hp hv
  refine (headV_at _ _ _).trans ((cumF_at _ _ _).trans ?_)
  refine Finset.sum_congr rfl fun i _ => ?_
  dsimp only
  rw [show r.val % 64 = (z 2).val % 64 by omega]
  refine ite_congr rfl (fun _ => ?_) fun _ => rfl
  refine (log_row hb ch o hl hu _ _).trans ?_
  refine congrArg₂ _root_.Inproj.glog (congrArg x (congrArg (ix2 0) (Fin.ext ?_))) (congrArg₂ (zrow xb w) (Fin.ext ?_) (Fin.ext ?_)) <;> dsimp only <;> omega

@[inherit_doc cumF_piece]
theorem cumB_piece {lb : FVec Ideal S1x512 .f32} {u : FVec Ideal S2048x512 .bf16} (hb : b + 1024 ≤ 7168) (ch o : Fin 2) (j : Fin 4) {hs : S256x2048.Slices ![128 * o.val, 0] S128x2048}
    {v : FVec Ideal S128x512 .f32} {p : FVec Ideal S1x1x128x128 .f32} (hp : p = headV v j) (hv : v = cumB (logV lb (sigV xb ![128 * o.val, 0] hs u)))
    (hl : ∀ c, lb (ix2 0 c) = x (ix2 0 ⟨512 * ch.val + c.val, by omega⟩)) (hu : ∀ k c, u (ix2 k c) = w (ix2 k ⟨b + (512 * ch.val + c.val), by omega⟩))
    {z : S1x1x128x128.Idx} {h : Fin 8} {r : Fin 256} {d : Fin 128} (h1 : h.val = 4 * ch.val + j.val)
    (h2 : r.val = 128 * o.val + (z 2).val) (h3 : d.val = (z 3).val) : p z = ∑ i : Fin 64, if r.val % 64 ≤ i.val then
      _root_.Inproj.glog (x (ix2 0 ⟨128 * h.val + d.val, by omega⟩)) (zrow xb w ⟨64 * (r.val / 64) + i.val, by omega⟩ ⟨b + (128 * h.val + d.val), by omega⟩) else 0 := by
  have z2 : (z 2).val < 128 := (z 2).isLt
  have z3 : (z 3).val < 128 := (z 3).isLt
  subst hp hv
  refine (headV_at _ _ _).trans ((cumB_at _ _ _).trans ?_)
  refine Finset.sum_congr rfl fun i _ => ?_
  dsimp only
  rw [show r.val % 64 = (z 2).val % 64 by omega]
  refine ite_congr rfl (fun _ => ?_) fun _ => rfl
  refine (log_row hb ch o hl hu _ _).trans ?_
  refine congrArg₂ _root_.Inproj.glog (congrArg x (congrArg (ix2 0) (Fin.ext ?_))) (congrArg₂ (zrow xb w) (Fin.ext ?_) (Fin.ext ?_)) <;> dsimp only <;> omega

/-- One stored piece of the keys. -/
theorem key_piece {lb : FVec Ideal S1x512 .f32} {u : FVec Ideal S2048x512 .bf16} (hb : b + 1024 ≤ 7168) (ch o : Fin 2) (j : Fin 4) {hs : S256x2048.Slices ![128 * o.val, 0] S128x2048}
    {v : FVec Ideal S128x512 .f32} {p : FVec Ideal S1x1x128x128 .bf16} (hp : p = headV v j) (hv : v = keyV lb (sigV xb ![128 * o.val, 0] hs u))
    (hl : ∀ c, lb (ix2 0 c) = x (ix2 0 ⟨512 * ch.val + c.val, by omega⟩)) (hu : ∀ k c, u (ix2 k c) = w (ix2 k ⟨b + (512 * ch.val + c.val), by omega⟩))
    {z : S1x1x128x128.Idx} {h : Fin 8} {r : Fin 256} {d : Fin 128} (h1 : h.val = 4 * ch.val + j.val)
    (h2 : r.val = 128 * o.val + (z 2).val) (h3 : d.val = (z 3).val) :
    p z = _root_.Inproj.key (x (ix2 0 ⟨128 * h.val + d.val, by omega⟩)) (zrow xb w r ⟨b + (128 * h.val + d.val), by omega⟩) := by
  have z2 : (z 2).val < 128 := (z 2).isLt
  have z3 : (z 3).val < 128 := (z 3).isLt
  subst hp hv
  refine (headV_at _ _ _).trans ((key_row hb ch o hl hu _ _).trans ?_)
  refine congrArg₂ _root_.Inproj.key (congrArg x (congrArg (ix2 0) (Fin.ext ?_))) (congrArg₂ (zrow xb w) (Fin.ext ?_) (Fin.ext ?_)) <;> dsimp only <;> omega

end

section
variable (x0 : Vec Ideal S256x2048 .f32) (x1 : Vec Ideal S1x2048 .f32) (x2 : Vec Ideal S2048x7168 .bf16) (x3 x4 x5 x6 : Vec Ideal S1x1024 .f32)
  (x7 : Vec Ideal S8x128x128 .bf16) (x8 : Vec Ideal S8x128x1 .f32) (x9 : Vec Ideal S1x1024 .f32)

/-- The forward running sums' block. -/
theorem out_pf (h : Fin 8) (r : Fin 256) (d : Fin 128) : out0_13 x0 x1 x2 x3 x4 x5 x6 x7 x8 x9 (ix4 0 h r d)
    = ∑ i : Fin 64, if i.val ≤ r.val % 64 then _root_.Inproj.glog (x3 (ix2 0 ⟨128 * h.val + d.val, by omega⟩))
        (zrow (k0_pay400 x0 x1 x2 x3 x4 x5 x6 x7 x8 x9) x2 ⟨64 * (r.val / 64) + i.val, by omega⟩ ⟨1024 + (128 * h.val + d.val), by omega⟩) else 0 := by
  unfold out0_13
  canon_tiles z h
  all_goals have e1 : h.val = _ := h1
  all_goals have e2 : r.val = _ := h2
  all_goals have e3 : d.val = _ := h3
  case piece0 => exact cumF_piece (by omega) 1 1 3 rfl (cum_f3 x0 x1 x2 x3 x4 x5 x6 x7 x8 x9) (bounds_ld _ 1 _) (weights_ld _ 1024 1 _ (by omega)) (by omega) (by omega) (by omega)
  case piece1 => exact cumF_piece (by omega) 1 1 2 rfl (cum_f3 x0 x1 x2 x3 x4 x5 x6 x7 x8 x9) (bounds_ld _ 1 _) (weights_ld _ 1024 1 _ (by omega)) (by omega) (by omega) (by omega)
  case piece2 => exact cumF_piece (by omega) 1 1 1 rfl (cum_f3 x0 x1 x2 x3 x4 x5 x6 x7 x8 x9) (bounds_ld _ 1 _) (weights_ld _ 1024 1 _ (by omega)) (by omega) (by omega) (by omega)
  case piece3 => exact cumF_piece (by omega) 1 1 0 rfl (cum_f3 x0 x1 x2 x3 x4 x5 x6 x7 x8 x9) (bounds_ld _ 1 _) (weights_ld _ 1024 1 _ (by omega)) (by omega) (by omega) (by omega)
  case piece4 => exact cumF_piece (by omega) 1 0 3 rfl (cum_f2 x0 x1 x2 x3 x4 x5 x6 x7 x8 x9) (bounds_ld _ 1 _) (weights_ld _ 1024 1 _ (by omega)) (by omega) (by omega) (by omega)
  case piece5 => exact cumF_piece (by omega) 1 0 2 rfl (cum_f2 x0 x1 x2 x3 x4 x5 x6 x7 x8 x9) (bounds_ld _ 1 _) (weights_ld _ 1024 1 _ (by omega)) (by omega) (by omega) (by omega)
  case piece6 => exact cumF_piece (by omega) 1 0 1 rfl (cum_f2 x0 x1 x2 x3 x4 x5 x6 x7 x8 x9) (bounds_ld _ 1 _) (weights_ld _ 1024 1 _ (by omega)) (by omega) (by omega) (by omega)
  case piece7 => exact cumF_piece (by omega) 1 0 0 rfl (cum_f2 x0 x1 x2 x3 x4 x5 x6 x7 x8 x9) (bounds_ld _ 1 _) (weights_ld _ 1024 1 _ (by omega)) (by omega) (by omega) (by omega)
  case piece8 => exact cumF_piece (by omega) 0 1 3 rfl (cum_f1 x0 x1 x2 x3 x4 x5 x6 x7 x8 x9) (bounds_ld _ 0 _) (weights_ld _ 1024 0 _ (by omega)) (by omega) (by omega) (by omega)
  case piece9 => exact cumF_piece (by omega) 0 1 2 rfl (cum_f1 x0 x1 x2 x3 x4 x5 x6 x7 x8 x9) (bounds_ld _ 0 _) (weights_ld _ 1024 0 _ (by omega)) (by omega) (by omega) (by omega)
  case piece10 => exact cumF_piece (by omega) 0 1 1 rfl (cum_f1 x0 x1 x2 x3 x4 x5 x6 x7 x8 x9) (bounds_ld _ 0 _) (weights_ld _ 1024 0 _ (by omega)) (by omega) (by omega) (by omega)
  case piece11 => exact cumF_piece (by omega) 0 1 0 rfl (cum_f1 x0 x1 x2 x3 x4 x5 x6 x7 x8 x9) (bounds_ld _ 0 _) (weights_ld _ 1024 0 _ (by omega)) (by omega) (by omega) (by omega)
  case piece12 => exact cumF_piece (by omega) 0 0 3 rfl (cum_f0 x0 x1 x2 x3 x4 x5 x6 x7 x8 x9) (bounds_ld _ 0 _) (weights_ld _ 1024 0 _ (by omega)) (by omega) (by omega) (by omega)
  case piece13 => exact cumF_piece (by omega) 0 0 2 rfl (cum_f0 x0 x1 x2 x3 x4 x5 x6 x7 x8 x9) (bounds_ld _ 0 _) (weights_ld _ 1024 0 _ (by omega)) (by omega) (by omega) (by omega)
  case piece14 => exact cumF_piece (by omega) 0 0 1 rfl (cum_f0 x0 x1 x2 x3 x4 x5 x6 x7 x8 x9) (bounds_ld _ 0 _) (weights_ld _ 1024 0 _ (by omega)) (by omega) (by omega) (by omega)
  case piece15 => exact cumF_piece (by omega) 0 0 0 rfl (cum_f0 x0 x1 x2 x3 x4 x5 x6 x7 x8 x9) (bounds_ld _ 0 _) (weights_ld _ 1024 0 _ (by omega)) (by omega) (by omega) (by omega)

/-- The backward running sums' block. -/
theorem out_cb (h : Fin 8) (r : Fin 256) (d : Fin 128) : out0_14 x0 x1 x2 x3 x4 x5 x6 x7 x8 x9 (ix4 0 h r d)
    = ∑ i : Fin 64, if r.val % 64 ≤ i.val then _root_.Inproj.glog (x4 (ix2 0 ⟨128 * h.val + d.val, by omega⟩))
        (zrow (k0_pay400 x0 x1 x2 x3 x4 x5 x6 x7 x8 x9) x2 ⟨64 * (r.val / 64) + i.val, by omega⟩ ⟨2048 + (128 * h.val + d.val), by omega⟩) else 0 := by
  unfold out0_14
  canon_tiles z h
  all_goals have e1 : h.val = _ := h1
  all_goals have e2 : r.val = _ := h2
  all_goals have e3 : d.val = _ := h3
  case piece0 => exact cumB_piece (by omega) 1 1 3 rfl (cum_b3 x0 x1 x2 x3 x4 x5 x6 x7 x8 x9) (bounds_ld _ 1 _) (weights_ld _ 2048 1 _ (by omega)) (by omega) (by omega) (by omega)
  case piece1 => exact cumB_piece (by omega) 1 1 2 rfl (cum_b3 x0 x1 x2 x3 x4 x5 x6 x7 x8 x9) (bounds_ld _ 1 _) (weights_ld _ 2048 1 _ (by omega)) (by omega) (by omega) (by omega)
  case piece2 => exact cumB_piece (by omega) 1 1 1 rfl (cum_b3 x0 x1 x2 x3 x4 x5 x6 x7 x8 x9) (bounds_ld _ 1 _) (weights_ld _ 2048 1 _ (by omega)) (by omega) (by omega) (by omega)
  case piece3 => exact cumB_piece (by omega) 1 1 0 rfl (cum_b3 x0 x1 x2 x3 x4 x5 x6 x7 x8 x9) (bounds_ld _ 1 _) (weights_ld _ 2048 1 _ (by omega)) (by omega) (by omega) (by omega)
  case piece4 => exact cumB_piece (by omega) 1 0 3 rfl (cum_b2 x0 x1 x2 x3 x4 x5 x6 x7 x8 x9) (bounds_ld _ 1 _) (weights_ld _ 2048 1 _ (by omega)) (by omega) (by omega) (by omega)
  case piece5 => exact cumB_piece (by omega) 1 0 2 rfl (cum_b2 x0 x1 x2 x3 x4 x5 x6 x7 x8 x9) (bounds_ld _ 1 _) (weights_ld _ 2048 1 _ (by omega)) (by omega) (by omega) (by omega)
  case piece6 => exact cumB_piece (by omega) 1 0 1 rfl (cum_b2 x0 x1 x2 x3 x4 x5 x6 x7 x8 x9) (bounds_ld _ 1 _) (weights_ld _ 2048 1 _ (by omega)) (by omega) (by omega) (by omega)
  case piece7 => exact cumB_piece (by omega) 1 0 0 rfl (cum_b2 x0 x1 x2 x3 x4 x5 x6 x7 x8 x9) (bounds_ld _ 1 _) (weights_ld _ 2048 1 _ (by omega)) (by omega) (by omega) (by omega)
  case piece8 => exact cumB_piece (by omega) 0 1 3 rfl (cum_b1 x0 x1 x2 x3 x4 x5 x6 x7 x8 x9) (bounds_ld _ 0 _) (weights_ld _ 2048 0 _ (by omega)) (by omega) (by omega) (by omega)
  case piece9 => exact cumB_piece (by omega) 0 1 2 rfl (cum_b1 x0 x1 x2 x3 x4 x5 x6 x7 x8 x9) (bounds_ld _ 0 _) (weights_ld _ 2048 0 _ (by omega)) (by omega) (by omega) (by omega)
  case piece10 => exact cumB_piece (by omega) 0 1 1 rfl (cum_b1 x0 x1 x2 x3 x4 x5 x6 x7 x8 x9) (bounds_ld _ 0 _) (weights_ld _ 2048 0 _ (by omega)) (by omega) (by omega) (by omega)
  case piece11 => exact cumB_piece (by omega) 0 1 0 rfl (cum_b1 x0 x1 x2 x3 x4 x5 x6 x7 x8 x9) (bounds_ld _ 0 _) (weights_ld _ 2048 0 _ (by omega)) (by omega) (by omega) (by omega)
  case piece12 => exact cumB_piece (by omega) 0 0 3 rfl (cum_b0 x0 x1 x2 x3 x4 x5 x6 x7 x8 x9) (bounds_ld _ 0 _) (weights_ld _ 2048 0 _ (by omega)) (by omega) (by omega) (by omega)
  case piece13 => exact cumB_piece (by omega) 0 0 2 rfl (cum_b0 x0 x1 x2 x3 x4 x5 x6 x7 x8 x9) (bounds_ld _ 0 _) (weights_ld _ 2048 0 _ (by omega)) (by omega) (by omega) (by omega)
  case piece14 => exact cumB_piece (by omega) 0 0 1 rfl (cum_b0 x0 x1 x2 x3 x4 x5 x6 x7 x8 x9) (bounds_ld _ 0 _) (weights_ld _ 2048 0 _ (by omega)) (by omega) (by omega) (by omega)
  case piece15 => exact cumB_piece (by omega) 0 0 0 rfl (cum_b0 x0 x1 x2 x3 x4 x5 x6 x7 x8 x9) (bounds_ld _ 0 _) (weights_ld _ 2048 0 _ (by omega)) (by omega) (by omega) (by omega)

/-- The forward keys' block. -/
theorem out_kf (h : Fin 8) (r : Fin 256) (d : Fin 128) : out0_11 x0 x1 x2 x3 x4 x5 x6 x7 x8 x9 (ix4 0 h r d)
    = _root_.Inproj.key (x3 (ix2 0 ⟨128 * h.val + d.val, by omega⟩)) (zrow (k0_pay400 x0 x1 x2 x3 x4 x5 x6 x7 x8 x9) x2 r ⟨1024 + (128 * h.val + d.val), by omega⟩) := by
  unfold out0_11
  canon_tiles z h
  all_goals have e1 : h.val = _ := h1
  all_goals have e2 : r.val = _ := h2
  all_goals have e3 : d.val = _ := h3
  case piece0 => exact key_piece (by omega) 1 1 3 rfl (key_f3 x0 x1 x2 x3 x4 x5 x6 x7 x8 x9) (bounds_ld _ 1 _) (weights_ld _ 1024 1 _ (by omega)) (by omega) (by omega) (by omega)
  case piece1 => exact key_piece (by omega) 1 1 2 rfl (key_f3 x0 x1 x2 x3 x4 x5 x6 x7 x8 x9) (bounds_ld _ 1 _) (weights_ld _ 1024 1 _ (by omega)) (by omega) (by omega) (by omega)
  case piece2 => exact key_piece (by omega) 1 1 1 rfl (key_f3 x0 x1 x2 x3 x4 x5 x6 x7 x8 x9) (bounds_ld _ 1 _) (weights_ld _ 1024 1 _ (by omega)) (by omega) (by omega) (by omega)
  case piece3 => exact key_piece (by omega) 1 1 0 rfl (key_f3 x0 x1 x2 x3 x4 x5 x6 x7 x8 x9) (bounds_ld _ 1 _) (weights_ld _ 1024 1 _ (by omega)) (by omega) (by omega) (by omega)
  case piece4 => exact key_piece (by omega) 1 0 3 rfl (key_f2 x0 x1 x2 x3 x4 x5 x6 x7 x8 x9) (bounds_ld _ 1 _) (weights_ld _ 1024 1 _ (by omega)) (by omega) (by omega) (by omega)
  case piece5 => exact key_piece (by omega) 1 0 2 rfl (key_f2 x0 x1 x2 x3 x4 x5 x6 x7 x8 x9) (bounds_ld _ 1 _) (weights_ld _ 1024 1 _ (by omega)) (by omega) (by omega) (by omega)
  case piece6 => exact key_piece (by omega) 1 0 1 rfl (key_f2 x0 x1 x2 x3 x4 x5 x6 x7 x8 x9) (bounds_ld _ 1 _) (weights_ld _ 1024 1 _ (by omega)) (by omega) (by omega) (by omega)
  case piece7 => exact key_piece (by omega) 1 0 0 rfl (key_f2 x0 x1 x2 x3 x4 x5 x6 x7 x8 x9) (bounds_ld _ 1 _) (weights_ld _ 1024 1 _ (by omega)) (by omega) (by omega) (by omega)
  case piece8 => exact key_piece (by omega) 0 1 3 rfl (key_f1 x0 x1 x2 x3 x4 x5 x6 x7 x8 x9) (bounds_ld _ 0 _) (weights_ld _ 1024 0 _ (by omega)) (by omega) (by omega) (by omega)
  case piece9 => exact key_piece (by omega) 0 1 2 rfl (key_f1 x0 x1 x2 x3 x4 x5 x6 x7 x8 x9) (bounds_ld _ 0 _) (weights_ld _ 1024 0 _ (by omega)) (by omega) (by omega) (by omega)
  case piece10 => exact key_piece (by omega) 0 1 1 rfl (key_f1 x0 x1 x2 x3 x4 x5 x6 x7 x8 x9) (bounds_ld _ 0 _) (weights_ld _ 1024 0 _ (by omega)) (by omega) (by omega) (by omega)
  case piece11 => exact key_piece (by omega) 0 1 0 rfl (key_f1 x0 x1 x2 x3 x4 x5 x6 x7 x8 x9) (bounds_ld _ 0 _) (weights_ld _ 1024 0 _ (by omega)) (by omega) (by omega) (by omega)
  case piece12 => exact key_piece (by omega) 0 0 3 rfl (key_f0 x0 x1 x2 x3 x4 x5 x6 x7 x8 x9) (bounds_ld _ 0 _) (weights_ld _ 1024 0 _ (by omega)) (by omega) (by omega) (by omega)
  case piece13 => exact key_piece (by omega) 0 0 2 rfl (key_f0 x0 x1 x2 x3 x4 x5 x6 x7 x8 x9) (bounds_ld _ 0 _) (weights_ld _ 1024 0 _ (by omega)) (by omega) (by omega) (by omega)
  case piece14 => exact key_piece (by omega) 0 0 1 rfl (key_f0 x0 x1 x2 x3 x4 x5 x6 x7 x8 x9) (bounds_ld _ 0 _) (weights_ld _ 1024 0 _ (by omega)) (by omega) (by omega) (by omega)
  case piece15 => exact key_piece (by omega) 0 0 0 rfl (key_f0 x0 x1 x2 x3 x4 x5 x6 x7 x8 x9) (bounds_ld _ 0 _) (weights_ld _ 1024 0 _ (by omega)) (by omega) (by omega) (by omega)

/-- The backward keys' block. -/
theorem out_kb (h : Fin 8) (r : Fin 256) (d : Fin 128) : out0_12 x0 x1 x2 x3 x4 x5 x6 x7 x8 x9 (ix4 0 h r d)
    = _root_.Inproj.key (x4 (ix2 0 ⟨128 * h.val + d.val, by omega⟩)) (zrow (k0_pay400 x0 x1 x2 x3 x4 x5 x6 x7 x8 x9) x2 r ⟨2048 + (128 * h.val + d.val), by omega⟩) := by
  unfold out0_12
  canon_tiles z h
  all_goals have e1 : h.val = _ := h1
  all_goals have e2 : r.val = _ := h2
  all_goals have e3 : d.val = _ := h3
  case piece0 => exact key_piece (by omega) 1 1 3 rfl (key_b3 x0 x1 x2 x3 x4 x5 x6 x7 x8 x9) (bounds_ld _ 1 _) (weights_ld _ 2048 1 _ (by omega)) (by omega) (by omega) (by omega)
  case piece1 => exact key_piece (by omega) 1 1 2 rfl (key_b3 x0 x1 x2 x3 x4 x5 x6 x7 x8 x9) (bounds_ld _ 1 _) (weights_ld _ 2048 1 _ (by omega)) (by omega) (by omega) (by omega)
  case piece2 => exact key_piece (by omega) 1 1 1 rfl (key_b3 x0 x1 x2 x3 x4 x5 x6 x7 x8 x9) (bounds_ld _ 1 _) (weights_ld _ 2048 1 _ (by omega)) (by omega) (by omega) (by omega)
  case piece3 => exact key_piece (by omega) 1 1 0 rfl (key_b3 x0 x1 x2 x3 x4 x5 x6 x7 x8 x9) (bounds_ld _ 1 _) (weights_ld _ 2048 1 _ (by omega)) (by omega) (by omega) (by omega)
  case piece4 => exact key_piece (by omega) 1 0 3 rfl (key_b2 x0 x1 x2 x3 x4 x5 x6 x7 x8 x9) (bounds_ld _ 1 _) (weights_ld _ 2048 1 _ (by omega)) (by omega) (by omega) (by omega)
  case piece5 => exact key_piece (by omega) 1 0 2 rfl (key_b2 x0 x1 x2 x3 x4 x5 x6 x7 x8 x9) (bounds_ld _ 1 _) (weights_ld _ 2048 1 _ (by omega)) (by omega) (by omega) (by omega)
  case piece6 => exact key_piece (by omega) 1 0 1 rfl (key_b2 x0 x1 x2 x3 x4 x5 x6 x7 x8 x9) (bounds_ld _ 1 _) (weights_ld _ 2048 1 _ (by omega)) (by omega) (by omega) (by omega)
  case piece7 => exact key_piece (by omega) 1 0 0 rfl (key_b2 x0 x1 x2 x3 x4 x5 x6 x7 x8 x9) (bounds_ld _ 1 _) (weights_ld _ 2048 1 _ (by omega)) (by omega) (by omega) (by omega)
  case piece8 => exact key_piece (by omega) 0 1 3 rfl (key_b1 x0 x1 x2 x3 x4 x5 x6 x7 x8 x9) (bounds_ld _ 0 _) (weights_ld _ 2048 0 _ (by omega)) (by omega) (by omega) (by omega)
  case piece9 => exact key_piece (by omega) 0 1 2 rfl (key_b1 x0 x1 x2 x3 x4 x5 x6 x7 x8 x9) (bounds_ld _ 0 _) (weights_ld _ 2048 0 _ (by omega)) (by omega) (by omega) (by omega)
  case piece10 => exact key_piece (by omega) 0 1 1 rfl (key_b1 x0 x1 x2 x3 x4 x5 x6 x7 x8 x9) (bounds_ld _ 0 _) (weights_ld _ 2048 0 _ (by omega)) (by omega) (by omega) (by omega)
  case piece11 => exact key_piece (by omega) 0 1 0 rfl (key_b1 x0 x1 x2 x3 x4 x5 x6 x7 x8 x9) (bounds_ld _ 0 _) (weights_ld _ 2048 0 _ (by omega)) (by omega) (by omega) (by omega)
  case piece12 => exact key_piece (by omega) 0 0 3 rfl (key_b0 x0 x1 x2 x3 x4 x5 x6 x7 x8 x9) (bounds_ld _ 0 _) (weights_ld _ 2048 0 _ (by omega)) (by omega) (by omega) (by omega)
  case piece13 => exact key_piece (by omega) 0 0 2 rfl (key_b0 x0 x1 x2 x3 x4 x5 x6 x7 x8 x9) (bounds_ld _ 0 _) (weights_ld _ 2048 0 _ (by omega)) (by omega) (by omega) (by omega)
  case piece14 => exact key_piece (by omega) 0 0 1 rfl (key_b0 x0 x1 x2 x3 x4 x5 x6 x7 x8 x9) (bounds_ld _ 0 _) (weights_ld _ 2048 0 _ (by omega)) (by omega) (by omega) (by omega)
  case piece15 => exact key_piece (by omega) 0 0 0 rfl (key_b0 x0 x1 x2 x3 x4 x5 x6 x7 x8 x9) (bounds_ld _ 0 _) (weights_ld _ 2048 0 _ (by omega)) (by omega) (by omega) (by omega)

end

end Cert.Kernel5Ideal.Inproj

end
-- ==== Proof.InprojOut.lean ====
/- The input projection's queries, values, output gates and gated features, block by block. -/
module

public import proofs.«01_k».proof.Proof.InprojGates
public import Idealize.ShloMosaic.Lib.Pipeline.ValueKit

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen

theorem wide_slices (j : Fin 8) : S256x1024.Slices ![0, 128 * j.val] S256x128 :=
  ⟨rfl, fun a => match a with
    | 0 => Nat.le_refl 256
    | 1 => show 128 * j.val + 128 ≤ 1024 by omega⟩

/-- One head's 128 columns of 1024. -/
def wideV (v : FVec Ideal S256x1024 .f32) (j : Fin 8) : FVec Ideal S1x1x256x128 .f32 :=
  shapeCast S1x1x256x128 (extractStridedSlice S256x128 ![0, 128 * j.val] v (wide_slices j)) shapeCasts_S256x128_S1x1x256x128

theorem wideV_at (v : FVec Ideal S256x1024 .f32) (j : Fin 8) (z : S1x1x256x128.Idx) :
    wideV v j z = v (ix2 (z 2) ⟨128 * j.val + (z 3).val, by have : (z 3).val < 128 := (z 3).isLt; omega⟩) := by
  have e : z = ix4 0 0 (z 2) (z 3) := by blk_ext []
  rw [e]
  pointwise [wideV]

/-- One stored piece of a whole head's rows. -/
theorem wide_piece {f : Fin 256 → Fin 1024 → EReal} (j : Fin 8) {v : FVec Ideal S256x1024 .f32} {p : FVec Ideal S1x1x256x128 .bf16} (hp : p = wideV v j)
    (hv : ∀ r c, v (ix2 r c) = f r c) {z : S1x1x256x128.Idx} {h : Fin 8} {r : Fin 256} {d : Fin 128} (h1 : h.val = j.val) (h2 : r.val = (z 2).val)
    (h3 : d.val = (z 3).val) : p z = f r ⟨128 * h.val + d.val, by omega⟩ := by
  have z2 : (z 2).val < 256 := (z 2).isLt
  have z3 : (z 3).val < 128 := (z 3).isLt
  subst hp
  refine (wideV_at _ _ _).trans ((hv _ _).trans (congrArg₂ f (Fin.ext ?_) (Fin.ext ?_))) <;> dsimp only <;> omega

theorem cols_ld (w : Vec Ideal S2048x7168 .bf16) (b : Nat) (inb : ∀ a, ![0, b] a + S2048x1024.size a ≤ S2048x7168.size a)
    (hb : b + 1024 ≤ 7168) (k : Fin 2048) (c : Fin 1024) :
    View.ld w (Rect.unit (s := S2048x7168) ![0, b] S2048x1024.size inb) (ix2 k c) = w (ix2 k ⟨b + c.val, by omega⟩) := by
  refine congrArg w ?_
  blk_ext [Rect.idx_unit_val]

theorem pay_proj (xb : FVec Ideal S256x2048 .bf16) (w : FVec Ideal S2048x1024 .bf16) (r : Fin 256) (c : Fin 1024) :
    k0_pay390 xb w (ix2 r c) = ∑ k : Fin 2048, xb (ix2 r k) * w (ix2 k c) := by
  pointwise [k0_pay390]

theorem pay_silu (xb : FVec Ideal S256x2048 .bf16) (w : FVec Ideal S2048x1024 .bf16) (r : Fin 256) (c : Fin 1024) :
    k0_pay204 xb w (ix2 r c) = _root_.Inproj.silu (∑ k : Fin 2048, xb (ix2 r k) * w (ix2 k c)) := by
  pointwise [k0_pay204]
  rw [zero_sub]
  rfl

theorem pay_silu_gate (xb : FVec Ideal S256x2048 .bf16) (w : FVec Ideal S2048x1024 .bf16) : k0_pay381 xb w = k0_pay204 xb w := rfl

theorem proj_cols (xb : FVec Ideal S256x2048 .bf16) (w : Vec Ideal S2048x7168 .bf16) (b : Nat) (inb : ∀ a, ![0, b] a + S2048x1024.size a ≤ S2048x7168.size a)
    (hb : b + 1024 ≤ 7168) (r : Fin 256) (c : Fin 1024) :
    k0_pay390 xb (View.ld w (Rect.unit (s := S2048x7168) ![0, b] S2048x1024.size inb)) (ix2 r c) = zrow xb w r ⟨b + c.val, by omega⟩ := by
  refine (pay_proj _ _ _ _).trans ?_
  simp only [cols_ld w b inb hb, zrow]

theorem silu_cols (xb : FVec Ideal S256x2048 .bf16) (w : Vec Ideal S2048x7168 .bf16) (b : Nat) (inb : ∀ a, ![0, b] a + S2048x1024.size a ≤ S2048x7168.size a)
    (hb : b + 1024 ≤ 7168) (r : Fin 256) (c : Fin 1024) :
    k0_pay204 xb (View.ld w (Rect.unit (s := S2048x7168) ![0, b] S2048x1024.size inb)) (ix2 r c) = _root_.Inproj.silu (zrow xb w r ⟨b + c.val, by omega⟩) := by
  refine (pay_silu _ _ _ _).trans ?_
  simp only [cols_ld w b inb hb, zrow]

/-! ## The gated features -/

/-- A head's mix of 128 rows. -/
def mixV (vn : FVec Ideal S256x1024 .bf16) (o : Fin 2 → Nat) (h : S256x1024.Slices o S128x128) (w : FVec Ideal S1x128x128 .bf16) (b : FVec Ideal S1x128x1 .f32) :
    FVec Ideal S128x128 .f32 :=
  addf (matmul dot_S128x128_S128x128_S128x128_1_0_0_1_n_n none (shapeCast S128x128 w shapeCasts_S1x128x128_S128x128) (extractStridedSlice S128x128 o vn h) (constant S128x128 .f32 0x00000000#32))
    (broadcastTo S128x128 (shapeCast S128x1 b shapeCasts_S1x128x1_S128x1) broadcasts_S128x1_S128x128)

theorem mix_slices (o : Fin 2) (j : Fin 8) : S256x1024.Slices ![128 * o.val, 128 * j.val] S128x128 :=
  ⟨rfl, fun a => match a with
    | 0 => show 128 * o.val + 128 ≤ 256 by omega
    | 1 => show 128 * j.val + 128 ≤ 1024 by omega⟩

theorem mixV_at (vn : FVec Ideal S256x1024 .bf16) (o : Fin 2) (j : Fin 8) (w : FVec Ideal S1x128x128 .bf16) (b : FVec Ideal S1x128x1 .f32) (r d : Fin 128) :
    mixV vn ![128 * o.val, 128 * j.val] (mix_slices o j) w b (ix2 r d)
      = ∑ k : Fin 128, w (ix3 0 r k) * vn (ix2 ⟨128 * o.val + k.val, by omega⟩ ⟨128 * j.val + d.val, by omega⟩) + b (ix3 0 r 0) := by
  pointwise [mixV]

/-- Eight heads side by side. -/
def sideV (t : Fin 8 → FVec Ideal S128x128 .f32) : FVec Ideal S128x1024 .f32 :=
  concatenate S128x1024 1 (List.ofFn fun n => ⟨S128x128, t n⟩) concatenates_S128x128_S128x128_S128x128_S128x128_S128x128_S128x128_S128x128_S128x128_S128x1024_d1

theorem sideV_at (t : Fin 8 → FVec Ideal S128x128 .f32) (r : Fin 128) (c : Fin 1024) :
    sideV t (ix2 r c) = t ⟨c.val / 128, by omega⟩ (ix2 r ⟨c.val % 128, by omega⟩) :=
  concatenate_ofFn_apply (t := S128x1024) (s₁ := S128x128) 1 t _ rfl 128 rfl (ix2 r c) ⟨c.val / 128, by omega⟩ rfl (ix2 r ⟨c.val % 128, by omega⟩) rfl
    fun b hb => match b with
      | 0 => rfl
      | 1 => absurd rfl hb

/-- The rows divided by their root mean squares, times a gain. -/
def rmsV (g : FVec Ideal S1x1024 .f32) (x : FVec Ideal S128x1024 .f32) : FVec Ideal S128x1024 .f32 :=
  mulf (mulf x (broadcastTo S128x1024 (rsqrt (addf (divf (shapeCast S128x1 (multiReduction .add [1] S128 (mulf x x) 0x00000000#32 reduces_S128x1024_S128 (.inl rfl) rfl) shapeCasts_S128_S128x1)
    (broadcast S128x1 (Scalar.ofBits .f32 0x44800000#32))) (broadcast S128x1 (Scalar.ofBits .f32 0x358637BD#32)))) broadcasts_S128x1_S128x1024)) (broadcastTo S128x1024 g broadcasts_S1x1024_S128x1024)

theorem rmsV_at (g : FVec Ideal S1x1024 .f32) (x : FVec Ideal S128x1024 .f32) (r : Fin 128) (c : Fin 1024) :
    rmsV g x (ix2 r c) = _root_.Inproj.rms 0x44800000#32 (fun k => x (ix2 r k)) (g (ix2 0 c)) c := by
  pointwise [rmsV]
  rfl

theorem pay_norm (x0 : FVec Ideal S256x2048 .f32) (x1 : FVec Ideal S1x2048 .f32) (r : Fin 256) (k : Fin 2048) :
    k0_pay2 (F := Ideal) x0 x1 (ix2 r k) = _root_.Inproj.rms 0x45000000#32 (fun q => x0 (ix2 r q)) (x1 (ix2 0 k)) k := by
  pointwise [k0_pay2]
  rfl

theorem pay_gelu (z : FVec Ideal S256x1024 .f32) (r : Fin 256) (c : Fin 1024)     : k0_pay9 (F := Ideal) z (ix2 r c) = _root_.Inproj.gelu (z (ix2 r c)) := by
  pointwise [k0_pay9]
  rfl

theorem pay_lnorm (g b : FVec Ideal S1x1024 .f32) (x : FVec Ideal S256x1024 .f32) (r : Fin 256) (c : Fin 1024) :
    k0_pay8 (F := Ideal) g b x (ix2 r c) = _root_.Inproj.lnorm (fun k => x (ix2 r k)) (g (ix2 0 c)) (b (ix2 0 c)) c := by
  pointwise [k0_pay8]
  rfl

section
variable (x0 : Vec Ideal S256x2048 .f32) (x1 : Vec Ideal S1x2048 .f32) (x2 : Vec Ideal S2048x7168 .bf16) (x3 x4 x5 x6 : Vec Ideal S1x1024 .f32)
  (x7 : Vec Ideal S8x128x128 .bf16) (x8 : Vec Ideal S8x128x1 .f32) (x9 : Vec Ideal S1x1024 .f32)

theorem zrow_at (r : Fin 256) (c : Fin 7168) : zrow (k0_pay400 x0 x1 x2 x3 x4 x5 x6 x7 x8 x9) x2 r c
    = _root_.Inproj.proj (fun k => x0 (ix2 r k)) (fun k => x1 (ix2 0 k)) (fun k => x2 (ix2 k c)) := by
  have e0 : View.ld x0 r0_0 = x0 := View.ld_unit_zero (by funext a; fin_cases a <;> rfl) _ x0
  have e1 : View.ld x1 r0_1 = x1 := View.ld_unit_zero (by funext a; fin_cases a <;> rfl) _ x1
  have e : k0_pay400 x0 x1 x2 x3 x4 x5 x6 x7 x8 x9 = k0_pay2 (F := Ideal) x0 x1 := by
    unfold k0_pay400
    rw [e0, e1]
  rw [e]
  exact Finset.sum_congr rfl fun k _ => congrArg (· * x2 (ix2 k c)) (pay_norm x0 x1 r k)

/-- The queries' block. -/
theorem out_q (h : Fin 8) (r : Fin 256) (d : Fin 128) : out0_10 x0 x1 x2 x3 x4 x5 x6 x7 x8 x9 (ix4 0 h r d)
    = _root_.Inproj.silu (zrow (k0_pay400 x0 x1 x2 x3 x4 x5 x6 x7 x8 x9) x2 r ⟨0 + (128 * h.val + d.val), by omega⟩) := by
  unfold out0_10
  canon_tiles z h
  all_goals have e1 : h.val = _ := h1
  all_goals have e2 : r.val = _ := h2
  all_goals have e3 : d.val = _ := h3
  case piece0 => exact wide_piece 7 rfl (silu_cols _ _ 0 _ (by omega)) (by omega) (by omega) (by omega)
  case piece1 => exact wide_piece 6 rfl (silu_cols _ _ 0 _ (by omega)) (by omega) (by omega) (by omega)
  case piece2 => exact wide_piece 5 rfl (silu_cols _ _ 0 _ (by omega)) (by omega) (by omega) (by omega)
  case piece3 => exact wide_piece 4 rfl (silu_cols _ _ 0 _ (by omega)) (by omega) (by omega) (by omega)
  case piece4 => exact wide_piece 3 rfl (silu_cols _ _ 0 _ (by omega)) (by omega) (by omega) (by omega)
  case piece5 => exact wide_piece 2 rfl (silu_cols _ _ 0 _ (by omega)) (by omega) (by omega) (by omega)
  case piece6 => exact wide_piece 1 rfl (silu_cols _ _ 0 _ (by omega)) (by omega) (by omega) (by omega)
  case piece7 => exact wide_piece 0 rfl (silu_cols _ _ 0 _ (by omega)) (by omega) (by omega) (by omega)

/-- The values' block. -/
theorem out_v (h : Fin 8) (r : Fin 256) (d : Fin 128) : out0_15 x0 x1 x2 x3 x4 x5 x6 x7 x8 x9 (ix4 0 h r d)
    = zrow (k0_pay400 x0 x1 x2 x3 x4 x5 x6 x7 x8 x9) x2 r ⟨3072 + (128 * h.val + d.val), by omega⟩ := by
  unfold out0_15
  canon_tiles z h
  all_goals have e1 : h.val = _ := h1
  all_goals have e2 : r.val = _ := h2
  all_goals have e3 : d.val = _ := h3
  case piece0 => exact wide_piece 7 rfl (proj_cols _ _ 3072 _ (by omega)) (by omega) (by omega) (by omega)
  case piece1 => exact wide_piece 6 rfl (proj_cols _ _ 3072 _ (by omega)) (by omega) (by omega) (by omega)
  case piece2 => exact wide_piece 5 rfl (proj_cols _ _ 3072 _ (by omega)) (by omega) (by omega) (by omega)
  case piece3 => exact wide_piece 4 rfl (proj_cols _ _ 3072 _ (by omega)) (by omega) (by omega) (by omega)
  case piece4 => exact wide_piece 3 rfl (proj_cols _ _ 3072 _ (by omega)) (by omega) (by omega) (by omega)
  case piece5 => exact wide_piece 2 rfl (proj_cols _ _ 3072 _ (by omega)) (by omega) (by omega) (by omega)
  case piece6 => exact wide_piece 1 rfl (proj_cols _ _ 3072 _ (by omega)) (by omega) (by omega) (by omega)
  case piece7 => exact wide_piece 0 rfl (proj_cols _ _ 3072 _ (by omega)) (by omega) (by omega) (by omega)

/-- The output gates' block. -/
theorem out_g (h : Fin 8) (r : Fin 256) (d : Fin 128) : out0_16 x0 x1 x2 x3 x4 x5 x6 x7 x8 x9 (ix4 0 h r d)
    = _root_.Inproj.silu (zrow (k0_pay400 x0 x1 x2 x3 x4 x5 x6 x7 x8 x9) x2 r ⟨4096 + (128 * h.val + d.val), by omega⟩) := by
  unfold out0_16
  canon_tiles z h
  all_goals have e1 : h.val = _ := h1
  all_goals have e2 : r.val = _ := h2
  all_goals have e3 : d.val = _ := h3
  case piece0 => exact wide_piece 7 rfl (silu_cols _ _ 4096 _ (by omega)) (by omega) (by omega) (by omega)
  case piece1 => exact wide_piece 6 rfl (silu_cols _ _ 4096 _ (by omega)) (by omega) (by omega) (by omega)
  case piece2 => exact wide_piece 5 rfl (silu_cols _ _ 4096 _ (by omega)) (by omega) (by omega) (by omega)
  case piece3 => exact wide_piece 4 rfl (silu_cols _ _ 4096 _ (by omega)) (by omega) (by omega) (by omega)
  case piece4 => exact wide_piece 3 rfl (silu_cols _ _ 4096 _ (by omega)) (by omega) (by omega) (by omega)
  case piece5 => exact wide_piece 2 rfl (silu_cols _ _ 4096 _ (by omega)) (by omega) (by omega) (by omega)
  case piece6 => exact wide_piece 1 rfl (silu_cols _ _ 4096 _ (by omega)) (by omega) (by omega) (by omega)
  case piece7 => exact wide_piece 0 rfl (silu_cols _ _ 4096 _ (by omega)) (by omega) (by omega) (by omega)

/-- A block's first unit. -/
theorem unit_at (r : Fin 256) (c : Fin 1024) : k0_pay406 x0 x1 x2 x3 x4 x5 x6 x7 x8 x9 (ix2 r c)
    = _root_.Inproj.gelu (zrow (k0_pay400 x0 x1 x2 x3 x4 x5 x6 x7 x8 x9) x2 r ⟨5120 + c.val, by omega⟩) :=
  (pay_gelu _ r c).trans (congrArg _root_.Inproj.gelu (proj_cols (k0_pay400 x0 x1 x2 x3 x4 x5 x6 x7 x8 x9) x2 5120 _ (by omega) r c))

theorem unit_mixed_at (r : Fin 256) (c : Fin 1024) : k0_pay404 x0 x1 x2 x3 x4 x5 x6 x7 x8 x9 (ix2 r c)
    = _root_.Inproj.gelu (zrow (k0_pay400 x0 x1 x2 x3 x4 x5 x6 x7 x8 x9) x2 r ⟨6144 + c.val, by omega⟩) :=
  (pay_gelu (k0_pay390 (k0_pay400 x0 x1 x2 x3 x4 x5 x6 x7 x8 x9) (View.ld x2 r0_2)) r c).trans
    (congrArg _root_.Inproj.gelu (proj_cols (k0_pay400 x0 x1 x2 x3 x4 x5 x6 x7 x8 x9) x2 6144 _ (by omega) r c))

theorem row_ld (g : Vec Ideal S1x1024 .f32) (c : Fin 1024) : k0_pay6 (F := Ideal) (View.ld g r0_4) (ix2 0 c) = g (ix2 0 c) := by
  have e : View.ld g r0_4 = g := View.ld_unit_zero (by funext a; fin_cases a <;> rfl) _ g
  rw [e]
  pointwise [k0_pay6]

/-- A block's normalised second unit. -/
theorem lnorm_at (r : Fin 256) (c : Fin 1024) : k0_pay405 x0 x1 x2 x3 x4 x5 x6 x7 x8 x9 (ix2 r c)
    = _root_.Inproj.lnorm (fun q => _root_.Inproj.gelu (zrow (k0_pay400 x0 x1 x2 x3 x4 x5 x6 x7 x8 x9) x2 r ⟨6144 + q.val, by omega⟩)) (x5 (ix2 0 c)) (x6 (ix2 0 c)) c := by
  refine (pay_lnorm _ _ _ r c).trans ?_
  rw [show k0_pay401 x0 x1 x2 x3 x4 x5 x6 x7 x8 x9 (ix2 0 c) = x5 (ix2 0 c) from row_ld x5 c,
    show k0_pay402 x0 x1 x2 x3 x4 x5 x6 x7 x8 x9 (ix2 0 c) = x6 (ix2 0 c) from row_ld x6 c]
  simp only [unit_mixed_at]

theorem head_weights (j : Fin 8) : ∀ a, ![j.val, 0, 0] a + S1x128x128.size a ≤ S8x128x128.size a := fun a => match a with
  | 0 => show j.val + 1 ≤ 8 by omega
  | 1 => Nat.le_refl 128
  | 2 => Nat.le_refl 128

theorem head_biases (j : Fin 8) : ∀ a, ![j.val, 0, 0] a + S1x128x1.size a ≤ S8x128x1.size a := fun a => match a with
  | 0 => show j.val + 1 ≤ 8 by omega
  | 1 => Nat.le_refl 128
  | 2 => Nat.le_refl 1

/-- A half's eight mixes. -/
def mixes (o : Fin 2) (j : Fin 8) : FVec Ideal S128x128 .f32 :=
  mixV (k0_pay405 x0 x1 x2 x3 x4 x5 x6 x7 x8 x9) ![128 * o.val, 128 * j.val] (mix_slices o j)
    (View.ld x7 (Rect.unit (s := S8x128x128) ![j.val, 0, 0] S1x128x128.size (head_weights j)))
    (View.ld x8 (Rect.unit (s := S8x128x1) ![j.val, 0, 0] S1x128x1.size (head_biases j)))

theorem half_slices (o : Fin 2) : S256x1024.Slices ![128 * o.val, 0] S128x1024 :=
  ⟨rfl, fun a => match a with
    | 0 => show 128 * o.val + 128 ≤ 256 by omega
    | 1 => Nat.le_refl 1024⟩

/-- A half's gated features before their normalisation. -/
def gatedV (o : Fin 2) : FVec Ideal S128x1024 .f32 :=
  mulf (extractStridedSlice S128x1024 ![128 * o.val, 0] (k0_pay406 x0 x1 x2 x3 x4 x5 x6 x7 x8 x9) (half_slices o)) (sideV (mixes x0 x1 x2 x3 x4 x5 x6 x7 x8 x9 o))

/-- A row's gated features, over the blocks the kernel reads. -/
def gated (r : Fin 256) (c : Fin 1024) : EReal :=
  _root_.Inproj.mix (zrow (k0_pay400 x0 x1 x2 x3 x4 x5 x6 x7 x8 x9) x2 r ⟨5120 + c.val, by omega⟩)
    (fun k => x7 (ix3 ⟨c.val / 128, by omega⟩ ⟨r.val % 128, by omega⟩ k))
    (fun k => _root_.Inproj.lnorm (fun q => _root_.Inproj.gelu (zrow (k0_pay400 x0 x1 x2 x3 x4 x5 x6 x7 x8 x9) x2 ⟨128 * (r.val / 128) + k.val, by omega⟩ ⟨6144 + q.val, by omega⟩))
      (x5 (ix2 0 c)) (x6 (ix2 0 c)) c)
    (x8 (ix3 ⟨c.val / 128, by omega⟩ ⟨r.val % 128, by omega⟩ 0))

theorem mixes_at (o : Fin 2) (j : Fin 8) (r d : Fin 128) : mixes x0 x1 x2 x3 x4 x5 x6 x7 x8 x9 o j (ix2 r d)
    = ∑ k : Fin 128, x7 (ix3 j r k) * k0_pay405 x0 x1 x2 x3 x4 x5 x6 x7 x8 x9 (ix2 ⟨128 * o.val + k.val, by omega⟩ ⟨128 * j.val + d.val, by omega⟩) + x8 (ix3 j r 0) := by
  refine (mixV_at _ o j _ _ r d).trans ?_
  refine congrArg₂ (· + ·) (Finset.sum_congr rfl fun k _ => congrArg (· * _) (congrArg x7 ?_)) (congrArg x8 ?_) <;> blk_ext [Rect.idx_unit_val]

theorem gatedV_at (o : Fin 2) (i : Fin 128) (r : Fin 256) (e : r.val = 128 * o.val + i.val) (c : Fin 1024) :
    gatedV x0 x1 x2 x3 x4 x5 x6 x7 x8 x9 o (ix2 i c) = gated x0 x1 x2 x3 x4 x5 x6 x7 x8 x9 r c := by
  pointwise [gatedV]
  rw [sideV_at, mixes_at, unit_at]
  simp only [lnorm_at]
  have hc : (⟨128 * (c.val / 128) + c.val % 128, by omega⟩ : Fin 1024) = c := Fin.ext (by dsimp only; omega)
  have hi : (⟨r.val % 128, by omega⟩ : Fin 128) = i := Fin.ext (by dsimp only; omega)
  have hr (k : Fin 128) : (⟨128 * (r.val / 128) + k.val, by omega⟩ : Fin 256) = ⟨128 * o.val + k.val, by omega⟩ := Fin.ext (by dsimp only; omega)
  have hu : (⟨128 * o.val + i.val, by omega⟩ : Fin 256) = r := Fin.ext (by dsimp only; omega)
  simp only [gated, _root_.Inproj.mix, hc, hi, hr, hu]

/-- A half's stored rows. -/
def halfV (o : Fin 2) : FVec Ideal S128x1024 .f32 := rmsV (k0_pay403 x0 x1 x2 x3 x4 x5 x6 x7 x8 x9) (gatedV x0 x1 x2 x3 x4 x5 x6 x7 x8 x9 o)

theorem halfV_at (o : Fin 2) (z : S128x1024.Idx) (r : Fin 256) (c : Fin 1024) (e : r.val = 128 * o.val + (z 0).val) (ec : c.val = (z 1).val) :
    halfV x0 x1 x2 x3 x4 x5 x6 x7 x8 x9 o z = _root_.Inproj.rms 0x44800000#32 (gated x0 x1 x2 x3 x4 x5 x6 x7 x8 x9 r) (x9 (ix2 0 c)) c := by
  have ez : z = ix2 (z 0) c := by
    blk_ext []
  refine (congrArg (halfV x0 x1 x2 x3 x4 x5 x6 x7 x8 x9 o) ez).trans ((rmsV_at _ _ (z 0) c).trans ?_)
  exact congrArg₂ (fun f g => _root_.Inproj.rms 0x44800000#32 f g c) (funext fun k => gatedV_at x0 x1 x2 x3 x4 x5 x6 x7 x8 x9 o (z 0) r e k) (row_ld x9 c)

/-- The gated features' block. -/
theorem out_s (r : Fin 256) (c : Fin 1024) : out0_17 x0 x1 x2 x3 x4 x5 x6 x7 x8 x9 (ix2 r c)
    = _root_.Inproj.rms 0x44800000#32 (gated x0 x1 x2 x3 x4 x5 x6 x7 x8 x9 r) (x9 (ix2 0 c)) c := by
  unfold out0_17
  canon_tiles z h
  all_goals have e0 : r.val = _ := h0
  all_goals have e1 : c.val = _ := h1
  case piece0 => exact halfV_at x0 x1 x2 x3 x4 x5 x6 x7 x8 x9 1 z r c (by omega) (by omega)
  case piece1 => exact halfV_at x0 x1 x2 x3 x4 x5 x6 x7 x8 x9 0 z r c (by omega) (by omega)

end

end Cert.Kernel5Ideal.Inproj

end
-- ==== Proof.InprojRef.lean ====
/- The input projection's formulas, one for each of its eight results, read at an index. -/
module

public import proofs.«01_k».proof.Proof.InprojForm

@[expose] public section

set_option maxRecDepth 16384

noncomputable section

open Idealize.ShloMosaic Idealize.ShloMosaic.TcCoe Idealize.SL.Sem

namespace Cert.Reference5Ideal.Inproj

open Cert.Reference5Ideal Cert.Reference5Ideal.Gen

/-- The projection of the normalised rows. -/
def PROJ (x : FVec Ideal S32768x2048 .f32) (g : FVec Ideal S2048 .f32) (w : FVec Ideal S2048x7168 .f32) : FVec Ideal S32768x7168 .f32 :=
  Host.dotGeneral (φ₁ := .f32) (φ₂ := .f32) dot_S32768x2048_S2048x7168_S32768x7168_1_0_0_1_n_n none (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) w

theorem PROJ_at (x : FVec Ideal S32768x2048 .f32) (g : FVec Ideal S2048 .f32) (w : FVec Ideal S2048x7168 .f32) (i : Fin 32768) (c : Fin 7168) :
    PROJ x g w (ix2 i c) = _root_.Inproj.proj (fun k => x (ix2 i k)) (fun k => g (ix1 k)) (fun k => w (ix2 k c)) := by
  pointwise [PROJ]
  rfl

/-- 1024 of the projection's columns as eight heads. -/
def HEADS (p : FVec Ideal S32768x7168 .f32) (o : Nat) (h : S32768x7168.Slices ![0, o] S32768x1024) : FVec Ideal S2x8x16384x128 .f32 :=
  transpose S2x8x16384x128 [0, 2, 1, 3] (shapeCast S2x16384x8x128 (extractStridedSlice S32768x1024 ![0, o] p h) shapeCasts_S32768x1024_S2x16384x8x128) transposes_S2x16384x8x128_S2x8x16384x128_0_2_1_3

theorem HEADS_at (p : FVec Ideal S32768x7168 .f32) (o : Nat) (ho : o + 1024 ≤ 7168) (hs : S32768x7168.Slices ![0, o] S32768x1024) (b : Fin 2) (h : Fin 8) (n : Fin 16384) (d : Fin 128) :
    HEADS p o hs (ix4 b h n d) = p (ix2 ⟨16384 * b.val + n.val, by omega⟩ ⟨o + (128 * h.val + d.val), by omega⟩) := by
  pointwise [HEADS]
  refine congrArg p ?_
  blk_ext []

/-- The exponentials of two rows of logits less their largest. -/
def EXPS (l : FVec Ideal S2x1024 .f32) : FVec Ideal S2x1024 .f32 :=
  Host.exp (subf l (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf l (constant S_ .f32 0xFF800000#32) reducesTo_S2x1024_S1024_d0 h_S_)))))

/-- The layer's lower bounds: the first row of the running sums of the logits' softmax. -/
def LB (l : FVec Ideal S2x1024 .f32) : FVec Ideal S1024 .f32 :=
  shapeCast S1024 (extractStridedSlice S1x1024 ![0, 0] (Host.reduceWindowAdd ![2, 1] ![1, 1] ![1, 0] ![0, 0] (Host.divf (EXPS l) (broadcastInDim S2x1024 ![0, 1] bcast_S1x1024_S2x1024_0_1 (broadcastInDim S1x1024 ![1] bcast_S1024_S1x1024_1 (Host.reduceAdd (EXPS l) (constant S_ .f32 0x00000000#32) reducesTo_S2x1024_S1024_d0 h_S_)))) (broadcastInDim S_ ![] bcast_S_S_ (constant S_ .f32 0x00000000#32)) reduceWindows_S2x1024_S2x1024_w2s1p1_0_w1s1p0_0 h_S_) slices_S2x1024_S1x1024_0_0) shapeCasts_S1x1024_S1024

/-- The lower bounds' eight heads. -/
def BOUNDS (l : FVec Ideal S1024 .f32) : FVec Ideal S8x1x128 .f32 := shapeCast S8x1x128 l shapeCasts_S1024_S8x1x128

theorem BOUNDS_at (l : FVec Ideal S1024 .f32) (h : Fin 8) (d : Fin 128) : BOUNDS l (ix3 h 0 d) = l (ix1 ⟨128 * h.val + d.val, by omega⟩) := by
  pointwise [BOUNDS]
  refine congrArg l ?_
  blk_ext []

/-- One for each lane. -/
def ONES : FVec Ideal S2x8x16384x128 .f32 := broadcastInDim S2x8x16384x128 ![] bcast_S_S2x8x16384x128 (constant S_ .f32 0x3F800000#32)

/-- A row of lower bounds over every row of every head. -/
def OVER (l : FVec Ideal S8x1x128 .f32) : FVec Ideal S2x8x16384x128 .f32 :=
  broadcastInDim S2x8x16384x128 ![0, 1, 2, 3] bcast_S1x8x1x128_S2x8x16384x128_0_1_2_3 (broadcastInDim S1x8x1x128 ![1, 2, 3] bcast_S8x1x128_S1x8x1x128_1_2_3 l)

/-- What the lower bounds leave. -/
def REST (l : FVec Ideal S8x1x128 .f32) : FVec Ideal S8x1x128 .f32 :=
  subf (broadcastInDim S8x1x128 ![] bcast_S_S8x1x128 (constant S_ .f32 0x3F800000#32)) l

/-- The logistic function of every lane. -/
def SIG (z : FVec Ideal S2x8x16384x128 .f32) : FVec Ideal S2x8x16384x128 .f32 := Host.divf ONES (addf ONES (Host.exp (Host.negf z)))

theorem SIG_at (z : FVec Ideal S2x8x16384x128 .f32) (b : Fin 2) (h : Fin 8) (n : Fin 16384) (d : Fin 128) :
    SIG z (ix4 b h n d) = _root_.Inproj.sig (z (ix4 b h n d)) := by
  pointwise [SIG, ONES]
  rfl

theorem OVER_at (l : FVec Ideal S8x1x128 .f32) (b : Fin 2) (h : Fin 8) (n : Fin 16384) (d : Fin 128) : OVER l (ix4 b h n d) = l (ix3 h 0 d) := by
  pointwise [OVER]

theorem REST_at (l : FVec Ideal S8x1x128 .f32) (h : Fin 8) (d : Fin 128) : REST l (ix3 h 0 d) = 1 - l (ix3 h 0 d) := by
  pointwise [REST]

/-- The queries' and output gates' formula. -/
def SILU (z : FVec Ideal S2x8x16384x128 .f32) : FVec Ideal S2x8x16384x128 .bf16 := truncf .bf16 (mulf z (SIG z)) bitsLt_bf16_f32

theorem SILU_at (z : FVec Ideal S2x8x16384x128 .f32) (b : Fin 2) (h : Fin 8) (n : Fin 16384) (d : Fin 128) :
    SILU z (ix4 b h n d) = _root_.Inproj.silu (z (ix4 b h n d)) := by
  pointwise [SILU]
  rw [SIG_at]
  rfl

/-- The values' formula. -/
def VALUES (z : FVec Ideal S2x8x16384x128 .f32) : FVec Ideal S2x8x16384x128 .bf16 := truncf .bf16 z bitsLt_bf16_f32

theorem VALUES_at (z : FVec Ideal S2x8x16384x128 .f32) (b : Fin 2) (h : Fin 8) (n : Fin 16384) (d : Fin 128) :
    VALUES z (ix4 b h n d) = z (ix4 b h n d) := rfl

/-- The keys' formula. -/
def KEYS (l : FVec Ideal S8x1x128 .f32) (z : FVec Ideal S2x8x16384x128 .f32) : FVec Ideal S2x8x16384x128 .bf16 :=
  truncf .bf16 (mulf (OVER (REST l)) (SIG (Host.negf z))) bitsLt_bf16_f32

theorem KEYS_at (l : FVec Ideal S8x1x128 .f32) (z : FVec Ideal S2x8x16384x128 .f32) (b : Fin 2) (h : Fin 8) (n : Fin 16384) (d : Fin 128) :
    KEYS l z (ix4 b h n d) = _root_.Inproj.key (l (ix3 h 0 d)) (z (ix4 b h n d)) := by
  pointwise [KEYS]
  rw [SIG_at, OVER_at, REST_at]
  rfl

/-- The base-2 logarithms of the forget gates. -/
def LOGS (l : FVec Ideal S8x1x128 .f32) (z : FVec Ideal S2x8x16384x128 .f32) : FVec Ideal S2x8x16384x128 .f32 :=
  Host.divf (Host.log (addf (OVER l) (mulf (OVER (REST l)) (SIG z)))) (broadcastInDim S2x8x16384x128 ![] bcast_S_S2x8x16384x128 (id (Host.log (constant S_ .f32 0x40000000#32))))

theorem LOGS_at (l : FVec Ideal S8x1x128 .f32) (z : FVec Ideal S2x8x16384x128 .f32) (b : Fin 2) (h : Fin 8) (n : Fin 16384) (d : Fin 128) :
    LOGS l z (ix4 b h n d) = _root_.Inproj.glog (l (ix3 h 0 d)) (z (ix4 b h n d)) := by
  pointwise [LOGS]
  rw [SIG_at, OVER_at, OVER_at, REST_at]
  exact _root_.Inproj.log_two _

/-- A chunk's 64 rows apart. -/
def CHUNKS (x : FVec Ideal S2x8x16384x128 .f32) : FVec Ideal S2x8x256x64x128 .f32 := shapeCast S2x8x256x64x128 x shapeCasts_S2x8x16384x128_S2x8x256x64x128

theorem CHUNKS_at (x : FVec Ideal S2x8x16384x128 .f32) (b : Fin 2) (h : Fin 8) (q : Fin 256) (i : Fin 64) (d : Fin 128) :
    CHUNKS x (ix5 b h q i d) = x (ix4 b h ⟨64 * q.val + i.val, by omega⟩ d) := by
  pointwise [CHUNKS]
  refine congrArg x ?_
  blk_ext []

theorem foldl_add {N : Nat} (f : Fin N → EReal) (v : EReal) : (List.finRange N).foldl (fun r n => r + f n) v = v + ∑ n : Fin N, f n := by
  have e (l : List (Fin N)) (v : EReal) : l.foldl (fun r n => r + f n) v = v + (l.map f).sum := by
    induction l generalizing v with
    | nil => simp
    | cons n l ih => rw [List.foldl_cons, ih, List.map_cons, List.sum_cons, add_assoc]
  rw [e, Fin.sum_univ_def]

/-- The window of 64 rows. -/
abbrev win : Shape := ⟨5, ![1, 1, 1, 64, 1]⟩

theorem win_numel : win.numel = 64 := by decide +kernel

theorem win_pos (n : Fin win.numel) : win.rowMajor.symm n = (ix5 0 0 0 (n.cast win_numel) 0 : win.Idx) := by
  have e : n = win.rowMajor (ix5 0 0 0 (n.cast win_numel) 0 : win.Idx) := by
    refine Fin.ext (Eq.symm ((Shape.rowMajor_val_five _).trans ?_))
    simp
  exact (Equiv.symm_apply_eq _).2 e

/-- The rows' entry at a natural number, zero outside. -/
def rowAt (x : FVec Ideal S2x8x256x64x128 .f32) (b : Fin 2) (h : Fin 8) (q : Fin 256) (d : Fin 128) (n : Nat) : EReal :=
  if e : n < 64 then x (ix5 b h q ⟨n, e⟩ d) else 0

/-- A window of 64 rows, `l` of them before the row: the sum of the rows the window meets. -/
theorem window_at (l u : Nat) (x : FVec Ideal S2x8x256x64x128 .f32) (init : FVec Ideal S_ .f32) (h0 : init ix0 = 0)
    (w : S2x8x256x64x128.ReduceWindows ![1, 1, 1, 64, 1] ![1, 1, 1, 1, 1] ![0, 0, 0, l, 0] ![0, 0, 0, u, 0] S2x8x256x64x128)
    (b : Fin 2) (h : Fin 8) (q : Fin 256) (r : Fin 64) (d : Fin 128) :
    Host.reduceWindowAdd ![1, 1, 1, 64, 1] ![1, 1, 1, 1, 1] ![0, 0, 0, l, 0] ![0, 0, 0, u, 0] x init w h_S_ (ix5 b h q r d)
      = ∑ n : Fin 64, if l ≤ r.val + n.val ∧ r.val + n.val - l < 64 then rowAt x b h q d (r.val + n.val - l) else 0 := by
  have hv : init (Shape.Idx.first h_S_) = 0 := (congrArg init (funext fun a => a.elim0)).trans h0
  unfold Host.reduceWindowAdd
  rw [Ideal.hostReduceWindowAdd_def]
  unfold Ideal.hostReduceWindowAdd Host.reduceWindow
  dsimp only
  refine (foldl_add _ _).trans ?_
  rw [hv, zero_add]
  refine Fintype.sum_equiv (finCongr win_numel) _ _ fun n => ?_
  have hw (a : Fin 5) : (win.rowMajor.symm n a).val = ((ix5 0 0 0 (n.cast win_numel) 0 : win.Idx) a).val := congrArg (fun i : win.Idx => (i a).val) (win_pos n)
  have w0 : (win.rowMajor.symm n 0).val = 0 := hw 0
  have w1 : (win.rowMajor.symm n 1).val = 0 := hw 1
  have w2 : (win.rowMajor.symm n 2).val = 0 := hw 2
  have w3 : (win.rowMajor.symm n 3).val = n.val := hw 3
  have w4 : (win.rowMajor.symm n 4).val = 0 := hw 4
  have hb := b.isLt
  have hh := h.isLt
  have hq := q.isLt
  have hd := d.isLt
  have en : (finCongr win_numel n).val = n.val := rfl
  rw [en]
  by_cases hc : l ≤ r.val + n.val ∧ r.val + n.val - l < 64
  · rw [if_pos hc, rowAt, dif_pos hc.2]
    refine (dif_pos fun a => ?_).trans (congrArg x (funext fun a => Fin.ext ?_))
    · match a with
      | 0 => exact (by omega : 0 ≤ b.val * 1 + (win.rowMajor.symm n 0).val ∧ b.val * 1 + (win.rowMajor.symm n 0).val - 0 < 2)
      | 1 => exact (by omega : 0 ≤ h.val * 1 + (win.rowMajor.symm n 1).val ∧ h.val * 1 + (win.rowMajor.symm n 1).val - 0 < 8)
      | 2 => exact (by omega : 0 ≤ q.val * 1 + (win.rowMajor.symm n 2).val ∧ q.val * 1 + (win.rowMajor.symm n 2).val - 0 < 256)
      | 3 => exact (by omega : l ≤ r.val * 1 + (win.rowMajor.symm n 3).val ∧ r.val * 1 + (win.rowMajor.symm n 3).val - l < 64)
      | 4 => exact (by omega : 0 ≤ d.val * 1 + (win.rowMajor.symm n 4).val ∧ d.val * 1 + (win.rowMajor.symm n 4).val - 0 < 128)
    · match a with
      | 0 => exact (by omega : b.val * 1 + (win.rowMajor.symm n 0).val - 0 = b.val)
      | 1 => exact (by omega : h.val * 1 + (win.rowMajor.symm n 1).val - 0 = h.val)
      | 2 => exact (by omega : q.val * 1 + (win.rowMajor.symm n 2).val - 0 = q.val)
      | 3 => exact (by omega : r.val * 1 + (win.rowMajor.symm n 3).val - l = r.val + n.val - l)
      | 4 => exact (by omega : d.val * 1 + (win.rowMajor.symm n 4).val - 0 = d.val)
  · rw [if_neg hc]
    refine dif_neg fun hin => hc ?_
    have h3 : l ≤ r.val * 1 + (win.rowMajor.symm n 3).val ∧ r.val * 1 + (win.rowMajor.symm n 3).val - l < 64 := hin 3
    omega

/-- The window that ends at the row: the rows up to it. -/
theorem up_to (y : Nat → EReal) (r : Fin 64) :
    (∑ n : Fin 64, if 63 ≤ r.val + n.val ∧ r.val + n.val - 63 < 64 then y (r.val + n.val - 63) else 0) = ∑ i : Fin 64, if i.val ≤ r.val then y i.val else 0 := by
  have hr := r.isLt
  rw [Fin.sum_univ_eq_sum_range (fun n => if 63 ≤ r.val + n ∧ r.val + n - 63 < 64 then y (r.val + n - 63) else 0) 64,
    Fin.sum_univ_eq_sum_range (fun i => if i ≤ r.val then y i else 0) 64, ← Finset.sum_filter, ← Finset.sum_filter]
  refine Finset.sum_nbij' (fun n => r.val + n - 63) (fun i => i + 63 - r.val) ?_ ?_ ?_ ?_ fun n _ => rfl
  all_goals
    intro n hn
    simp only [Finset.mem_filter, Finset.mem_range] at hn ⊢
    omega

/-- The window that starts at the row: the rows from it on. -/
theorem from_on (y : Nat → EReal) (r : Fin 64) :
    (∑ n : Fin 64, if 0 ≤ r.val + n.val ∧ r.val + n.val - 0 < 64 then y (r.val + n.val - 0) else 0) = ∑ i : Fin 64, if r.val ≤ i.val then y i.val else 0 := by
  have hr := r.isLt
  rw [Fin.sum_univ_eq_sum_range (fun n => if 0 ≤ r.val + n ∧ r.val + n - 0 < 64 then y (r.val + n - 0) else 0) 64,
    Fin.sum_univ_eq_sum_range (fun i => if r.val ≤ i then y i else 0) 64, ← Finset.sum_filter, ← Finset.sum_filter]
  refine Finset.sum_nbij' (fun n => r.val + n - 0) (fun i => i - r.val) ?_ ?_ ?_ ?_ fun n _ => rfl
  all_goals
    intro n hn
    simp only [Finset.mem_filter, Finset.mem_range] at hn ⊢
    omega

/-- The initial value of a running sum. -/
def ZERO : FVec Ideal S_ .f32 := broadcastInDim S_ ![] bcast_S_S_ (constant S_ .f32 0x00000000#32)

theorem ZERO_at : ZERO ix0 = 0 := by
  pointwise [ZERO]

/-- The forward running sums' formula: in each chunk of 64 rows, the sum of the rows up to each row. -/
def SUMF (x : FVec Ideal S2x8x16384x128 .f32) : FVec Ideal S2x8x16384x128 .f32 :=
  shapeCast S2x8x16384x128 (Host.reduceWindowAdd ![1, 1, 1, 64, 1] ![1, 1, 1, 1, 1] ![0, 0, 0, 63, 0] ![0, 0, 0, 0, 0] (CHUNKS x) ZERO reduceWindows_S2x8x256x64x128_S2x8x256x64x128_w1s1p0_0_w1s1p0_0_w1s1p0_0_w64s1p63_0_w1s1p0_0 h_S_) shapeCasts_S2x8x256x64x128_S2x8x16384x128

/-- The backward running sums' formula: the sum of the chunk's rows from each row on. -/
def SUMB (x : FVec Ideal S2x8x16384x128 .f32) : FVec Ideal S2x8x16384x128 .f32 :=
  shapeCast S2x8x16384x128 (Host.reduceWindowAdd ![1, 1, 1, 64, 1] ![1, 1, 1, 1, 1] ![0, 0, 0, 0, 0] ![0, 0, 0, 63, 0] (CHUNKS x) ZERO reduceWindows_S2x8x256x64x128_S2x8x256x64x128_w1s1p0_0_w1s1p0_0_w1s1p0_0_w64s1p0_63_w1s1p0_0 h_S_) shapeCasts_S2x8x256x64x128_S2x8x16384x128

theorem rows_at (y : FVec Ideal S2x8x256x64x128 .f32) (b : Fin 2) (h : Fin 8) (n : Fin 16384) (d : Fin 128) :
    shapeCast S2x8x16384x128 y shapeCasts_S2x8x256x64x128_S2x8x16384x128 (ix4 b h n d) = y (ix5 b h ⟨n.val / 64, by omega⟩ ⟨n.val % 64, by omega⟩ d) := by
  pointwise []

theorem rowAt_chunks (x : FVec Ideal S2x8x16384x128 .f32) (b : Fin 2) (h : Fin 8) (q : Fin 256) (d : Fin 128) (i : Fin 64) :
    rowAt (CHUNKS x) b h q d i.val = x (ix4 b h ⟨64 * q.val + i.val, by omega⟩ d) := by
  rw [rowAt, dif_pos i.isLt]
  exact CHUNKS_at x b h q i d

theorem SUMF_at (x : FVec Ideal S2x8x16384x128 .f32) (b : Fin 2) (h : Fin 8) (n : Fin 16384) (d : Fin 128) :
    SUMF x (ix4 b h n d) = ∑ i : Fin 64, if i.val ≤ n.val % 64 then x (ix4 b h ⟨64 * (n.val / 64) + i.val, by omega⟩ d) else 0 := by
  refine (rows_at _ b h n d).trans ((window_at _ _ _ _ ZERO_at _ b h _ _ d).trans ((up_to _ _).trans ?_))
  simp only [rowAt_chunks]

theorem SUMB_at (x : FVec Ideal S2x8x16384x128 .f32) (b : Fin 2) (h : Fin 8) (n : Fin 16384) (d : Fin 128) :
    SUMB x (ix4 b h n d) = ∑ i : Fin 64, if n.val % 64 ≤ i.val then x (ix4 b h ⟨64 * (n.val / 64) + i.val, by omega⟩ d) else 0 := by
  refine (rows_at _ b h n d).trans ((window_at _ _ _ _ ZERO_at _ b h _ _ d).trans ((from_on _ _).trans ?_))
  simp only [rowAt_chunks]

/-! ## The gated features -/

/-- The Gaussian error linear unit of 1024 of the projection's columns. -/
def GELU (z : FVec Ideal S32768x1024 .f32) : FVec Ideal S32768x1024 .f32 :=
  mulf (mulf (broadcastInDim S32768x1024 ![] bcast_S_S32768x1024 (constant S_ .f32 0x3F000000#32)) z) (Host.erfc (mulf (Host.negf z) (broadcastInDim S32768x1024 ![] bcast_S_S32768x1024 (constant S_ .f32 0x3F3504F3#32))))

theorem GELU_at (z : FVec Ideal S32768x1024 .f32) (i : Fin 32768) (c : Fin 1024) : GELU z (ix2 i c) = _root_.Inproj.gelu (z (ix2 i c)) := by
  pointwise [GELU]
  exact _root_.Inproj.gelu_erfc _

/-- 1024 of the projection's columns. -/
def COLS (p : FVec Ideal S32768x7168 .f32) (o : Nat) (h : S32768x7168.Slices ![0, o] S32768x1024) : FVec Ideal S32768x1024 .f32 :=
  extractStridedSlice S32768x1024 ![0, o] p h

theorem COLS_at (p : FVec Ideal S32768x7168 .f32) (o : Nat) (ho : o + 1024 ≤ 7168) (h : S32768x7168.Slices ![0, o] S32768x1024) (i : Fin 32768) (c : Fin 1024) :
    COLS p o h (ix2 i c) = p (ix2 i ⟨o + c.val, by omega⟩) := by
  pointwise [COLS]

/-- The rows less their means. -/
def CENTRED (x : FVec Ideal S32768x1024 .f32) : FVec Ideal S32768x1024 .f32 :=
  subf x (broadcastInDim S32768x1024 ![0, 1] bcast_S32768x1_S32768x1024_0_1 (Host.divf (broadcastInDim S32768x1 ![0] bcast_S32768_S32768x1_0 (Host.reduceAdd x (constant S_ .f32 0x00000000#32) reducesTo_S32768x1024_S32768_d1 h_S_)) (broadcastInDim S32768x1 ![] bcast_S_S32768x1 (constant S_ .f32 0x44800000#32))))

theorem CENTRED_at (x : FVec Ideal S32768x1024 .f32) (i : Fin 32768) (c : Fin 1024) : CENTRED x (ix2 i c) = _root_.Inproj.centred (fun k => x (ix2 i k)) c := by
  pointwise [CENTRED]
  rfl

/-- The rows divided by their root mean squares, times a gain. -/
def RMS (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

theorem RMS_at (x : FVec Ideal S32768x1024 .f32) (g : FVec Ideal S1024 .f32) (i : Fin 32768) (c : Fin 1024) :
    RMS x g (ix2 i c) = _root_.Inproj.rms 0x44800000#32 (fun k => x (ix2 i k)) (g (ix1 c)) c := by
  pointwise [RMS]
  rfl

/-- The rows' layer normalisation. -/
def LNORM (x : FVec Ideal S32768x1024 .f32) (g b : FVec Ideal S1024 .f32) : FVec Ideal S32768x1024 .f32 :=
  addf (RMS (CENTRED x) g) (broadcastInDim S32768x1024 ![0, 1] bcast_S1x1024_S32768x1024_0_1 (broadcastInDim S1x1024 ![1] bcast_S1024_S1x1024_1 b))

theorem LNORM_at (x : FVec Ideal S32768x1024 .f32) (g b : FVec Ideal S1024 .f32) (i : Fin 32768) (c : Fin 1024) :
    LNORM x g b (ix2 i c) = _root_.Inproj.lnorm (fun k => x (ix2 i k)) (g (ix1 c)) (b (ix1 c)) c := by
  pointwise [LNORM]
  rw [RMS_at]
  simp only [CENTRED_at, _root_.Inproj.lnorm]

/-- Each head's mix of a chunk's 128 rows. -/
def MIXED (v : FVec Ideal S32768x1024 .f32) (w : FVec Ideal S8x128x128 .f32) (b : FVec Ideal S8x128 .f32) : FVec Ideal S32768x1024 .f32 :=
  shapeCast S32768x1024 (addf (transpose S256x128x8x128 [1, 3, 0, 2] (Host.dotGeneral (φ₁ := .f32) (φ₂ := .f32) dot_S256x128x8x128_S8x128x128_S8x256x128x128_1_2_03_1_2_0 none (shapeCast S256x128x8x128 v shapeCasts_S32768x1024_S256x128x8x128) w) transposes_S8x256x128x128_S256x128x8x128_1_3_0_2) (broadcastInDim S256x128x8x128 ![0, 1, 2, 3] bcast_S1x128x8x1_S256x128x8x128_0_1_2_3 (broadcastInDim S1x128x8x1 ![1, 2, 3] bcast_S128x8x1_S1x128x8x1_1_2_3 (broadcastInDim S128x8x1 ![0, 1] bcast_S128x8_S128x8x1_0_1 (transpose S128x8 [1, 0] b transposes_S8x128_S128x8_1_0))))) shapeCasts_S256x128x8x128_S32768x1024

theorem MIXED_at (v : FVec Ideal S32768x1024 .f32) (w : FVec Ideal S8x128x128 .f32) (b : FVec Ideal S8x128 .f32) (i : Fin 32768) (c : Fin 1024) :
    MIXED v w b (ix2 i c) = ∑ k : Fin 128, w (ix3 ⟨c.val / 128, by omega⟩ ⟨i.val % 128, by omega⟩ k) * v (ix2 ⟨128 * (i.val / 128) + k.val, by omega⟩ c)
      + b (ix2 ⟨c.val / 128, by omega⟩ ⟨i.val % 128, by omega⟩) := by
  pointwise [MIXED]
  refine congrArg (· + _) (Finset.sum_congr rfl fun k _ => (mul_comm _ _).trans (congrArg (w _ * v ·) ?_))
  blk_ext []

/-- The gated features before their last normalisation. -/
def GATED (p : FVec Ideal S32768x7168 .f32) (g b : FVec Ideal S1024 .f32) (w : FVec Ideal S8x128x128 .f32) (s : FVec Ideal S8x128 .f32) : FVec Ideal S32768x1024 .f32 :=
  mulf (GELU (COLS p 5120 slices_S32768x7168_S32768x1024_0_5120)) (MIXED (LNORM (GELU (COLS p 6144 slices_S32768x7168_S32768x1024_0_6144)) g b) w s)

theorem GATED_at (p : FVec Ideal S32768x7168 .f32) (g b : FVec Ideal S1024 .f32) (w : FVec Ideal S8x128x128 .f32) (s : FVec Ideal S8x128 .f32) (i : Fin 32768) (c : Fin 1024) :
    GATED p g b w s (ix2 i c) = _root_.Inproj.mix (p (ix2 i ⟨5120 + c.val, by omega⟩)) (fun k => w (ix3 ⟨c.val / 128, by omega⟩ ⟨i.val % 128, by omega⟩ k))
      (fun k => _root_.Inproj.lnorm (fun q => _root_.Inproj.gelu (p (ix2 ⟨128 * (i.val / 128) + k.val, by omega⟩ ⟨6144 + q.val, by omega⟩))) (g (ix1 c)) (b (ix1 c)) c)
      (s (ix2 ⟨c.val / 128, by omega⟩ ⟨i.val % 128, by omega⟩)) := by
  pointwise [GATED]
  rw [MIXED_at, GELU_at, COLS_at _ _ (by omega)]
  simp only [LNORM_at, GELU_at, COLS_at _ _ (by omega : 6144 + 1024 ≤ 7168), _root_.Inproj.mix]

/-- The gated features' formula. -/
def FEATURES (p : FVec Ideal S32768x7168 .f32) (g b : FVec Ideal S1024 .f32) (w : FVec Ideal S8x128x128 .f32) (s : FVec Ideal S8x128 .f32) (o : FVec Ideal S1024 .f32) :
    FVec Ideal S32768x1024 .bf16 :=
  truncf .bf16 (RMS (GATED p g b w s) o) bitsLt_bf16_f32

theorem FEATURES_at (p : FVec Ideal S32768x7168 .f32) (g b : FVec Ideal S1024 .f32) (w : FVec Ideal S8x128x128 .f32) (s : FVec Ideal S8x128 .f32) (o : FVec Ideal S1024 .f32)
    (i : Fin 32768) (c : Fin 1024) : FEATURES p g b w s o (ix2 i c) = _root_.Inproj.rms 0x44800000#32 (fun k => GATED p g b w s (ix2 i k)) (o (ix1 c)) c := by
  pointwise [FEATURES]
  exact RMS_at _ _ _ _

/-! ## The eight results -/

section
variable (x : FVec Ideal S32768x2048 .f32) (n : FVec Ideal S2048 .f32) (w : FVec Ideal S2048x7168 .f32)

/-- The queries. -/
def Q : FVec Ideal S2x8x16384x128 .bf16 := SILU (HEADS (PROJ x n w) 0 slices_S32768x7168_S32768x1024_0_0)

/-- One direction's gate heads, before the logistic function: the forward direction's columns start at 1024. -/
def ZF : FVec Ideal S2x8x16384x128 .f32 := HEADS (PROJ x n w) 1024 slices_S32768x7168_S32768x1024_0_1024

/-- The backward direction's gate heads: its columns start at 2048. -/
def ZB : FVec Ideal S2x8x16384x128 .f32 := HEADS (PROJ x n w) 2048 slices_S32768x7168_S32768x1024_0_2048

/-- The forward keys, with the forward lower bounds. -/
def KF (l : FVec Ideal S1024 .f32) : FVec Ideal S2x8x16384x128 .bf16 := KEYS (BOUNDS l) (ZF x n w)

/-- The backward keys. -/
def KB (l : FVec Ideal S1024 .f32) : FVec Ideal S2x8x16384x128 .bf16 := KEYS (BOUNDS l) (ZB x n w)

/-- The forward running sums of the gates' logarithms. -/
def PF (l : FVec Ideal S1024 .f32) : FVec Ideal S2x8x16384x128 .f32 := SUMF (LOGS (BOUNDS l) (ZF x n w))

/-- The backward running sums. -/
def CB (l : FVec Ideal S1024 .f32) : FVec Ideal S2x8x16384x128 .f32 := SUMB (LOGS (BOUNDS l) (ZB x n w))

/-- The values. -/
def VAL : FVec Ideal S2x8x16384x128 .bf16 := VALUES (HEADS (PROJ x n w) 3072 slices_S32768x7168_S32768x1024_0_3072)

/-- The output gates. -/
def OG : FVec Ideal S2x8x16384x128 .bf16 := SILU (HEADS (PROJ x n w) 4096 slices_S32768x7168_S32768x1024_0_4096)

/-- The gated features. -/
def S (g b : FVec Ideal S1024 .f32) (u : FVec Ideal S8x128x128 .f32) (s : FVec Ideal S8x128 .f32) (o : FVec Ideal S1024 .f32) : FVec Ideal S32768x1024 .bf16 :=
  FEATURES (PROJ x n w) g b u s o

end

end Cert.Reference5Ideal.Inproj

end
-- ==== Proof.Inproj.lean ====
/- The input projection: what the tiled kernel leaves in its eight result arrays is the queries, keys, running sums of the
   gates' logarithms, values, output gates and gated features of the argument arrays, over the extended reals. -/
module

public import proofs.«01_k».proof.Proof.InprojOut
public import proofs.«01_k».proof.Proof.InprojRef
public import proofs.«01_k».proof.Proof.Gen.Kernel5Ideal.Value
public import Idealize.ShloMosaic.Lib.Pipeline.ValueKit

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen

open Idealize.ShloMosaic.Pipeline (Dat)

variable (m : (ℓ : Loc nD τ sig) → Buf (Elt Ideal) ℓ)

/-- The windows' block indices at point `t` of the 128 row blocks. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0] ∧ win0_8.index t = ![0, 0, 0]
    ∧ win0_9.index t = ![0, 0] ∧ win0_17.index t = ![t.val, 0] :=
  (by decide +kernel : ∀ t : Fin grid0.N, _)

/-- The seven head arrays' block indices: the sequence, and the rows within it. -/
theorem idx_heads : ∀ t : Fin cfg0.N, win0_10.index t = ![t.val / 64, 0, t.val % 64, 0] ∧ win0_11.index t = ![t.val / 64, 0, t.val % 64, 0]
    ∧ win0_12.index t = ![t.val / 64, 0, t.val % 64, 0] ∧ win0_13.index t = ![t.val / 64, 0, t.val % 64, 0] ∧ win0_14.index t = ![t.val / 64, 0, t.val % 64, 0]
    ∧ win0_15.index t = ![t.val / 64, 0, t.val % 64, 0] ∧ win0_16.index t = ![t.val / 64, 0, t.val % 64, 0] :=
  (by decide +kernel : ∀ t : Fin grid0.N, _)

theorem point_lt (t : Fin cfg0.N) : t.val < 128 := by
  have h : cfg0.N = 128 := by decide
  have := t.isLt
  omega

theorem row_lt (t : Fin cfg0.N) (r : Fin 256) : 256 * t.val + r.val < 32768 := by
  have := point_lt t
  omega

/-! ## The arguments, as the blocks hold them -/

theorem x_at (c : Dev nD) (t : Fin cfg0.N) (r : Fin 256) (k : Fin 2048) :
    iblk m c 0 t (ix2 r k) = m ((c : Thread nD τ).loc main_arg0) (ix2 ⟨256 * t.val + r.val, row_lt t r⟩ k) := by
  blk_ext [iblk, V, idx t]

theorem gain (c : Dev nD) : V m c main_v24 = fun j : S1x2048.Idx => (m ((c : Thread nD τ).loc main_arg1) : FVec Ideal S2048 .f32) (ix1 (j 1)) := by
  have e : V m c main_v24 = (shapeCast S1x2048 (m ((c : Thread nD τ).loc main_arg1) : FVec Ideal S2048 .f32) shapeCasts_S2048_S1x2048 : FVec Ideal S1x2048 .f32) := by
    unfold V
    simp only [hostOps0, hostOps0_1, hostOps0_2, hostOps0_3, hostOps0_4, List.flatten_cons, List.flatten_nil, List.append_nil, List.cons_append, List.nil_append]
    after_results; try rfl
  rw [e]; funext j; pointwise []

theorem gain_at (c : Dev nD) (t : Fin cfg0.N) (k : Fin 2048) : iblk m c 1 t (ix2 0 k) = m ((c : Thread nD τ).loc main_arg1) (ix1 k) := by
  have e : (win0_1.blk t).view.emb (ix2 0 k) = ix2 0 k := by blk_ext [idx t]
  exact (congrArg (V m c main_v24) e).trans (congrFun (gain m c) (ix2 0 k))

theorem weights (c : Dev nD) : V m c main_v25 = (truncf .bf16 (m ((c : Thread nD τ).loc main_arg2) : FVec Ideal S2048x7168 .f32) bitsLt_bf16_f32 : FVec Ideal S2048x7168 .bf16) := by
  unfold V
  simp only [hostOps0, hostOps0_1, hostOps0_2, hostOps0_3, hostOps0_4, List.flatten_cons, List.flatten_nil, List.append_nil, List.cons_append, List.nil_append]
  after_results; try rfl

theorem weights_at (c : Dev nD) (t : Fin cfg0.N) (k : Fin 2048) (l : Fin 7168) :
    iblk m c 2 t (ix2 k l) = m ((c : Thread nD τ).loc main_arg2) (ix2 k l) := by
  blk_ext [iblk, weights, idx t]

theorem mixing (c : Dev nD) : V m c main_v34 = (truncf .bf16 (m ((c : Thread nD τ).loc main_arg7) : FVec Ideal S8x128x128 .f32) bitsLt_bf16_f32 : FVec Ideal S8x128x128 .bf16) := by
  unfold V
  simp only [hostOps0, hostOps0_1, hostOps0_2, hostOps0_3, hostOps0_4, List.flatten_cons, List.flatten_nil, List.append_nil, List.cons_append, List.nil_append]
  after_results; try rfl

theorem mixing_at (c : Dev nD) (t : Fin cfg0.N) (h : Fin 8) (k l : Fin 128) :
    iblk m c 7 t (ix3 h k l) = m ((c : Thread nD τ).loc main_arg7) (ix3 h k l) := by
  blk_ext [iblk, mixing, idx t]

theorem biases (c : Dev nD) : V m c main_v35 = fun j : S8x128x1.Idx => (m ((c : Thread nD τ).loc main_arg8) : FVec Ideal S8x128 .f32) (ix2 (j 0) (j 1)) := by
  have e : V m c main_v35 = (broadcastInDim S8x128x1 ![0, 1] bcast_S8x128_S8x128x1_0_1 (m ((c : Thread nD τ).loc main_arg8) : FVec Ideal S8x128 .f32) : FVec Ideal S8x128x1 .f32) := by
    unfold V
    simp only [hostOps0, hostOps0_1, hostOps0_2, hostOps0_3, hostOps0_4, List.flatten_cons, List.flatten_nil, List.append_nil, List.cons_append, List.nil_append]
    after_results; try rfl
  rw [e]; funext j; pointwise []

theorem biases_at (c : Dev nD) (t : Fin cfg0.N) (h : Fin 8) (k : Fin 128) : iblk m c 8 t (ix3 h k 0) = m ((c : Thread nD τ).loc main_arg8) (ix2 h k) := by
  have e : (win0_8.blk t).view.emb (ix3 h k 0) = ix3 h k 0 := by blk_ext [idx t]
  exact (congrArg (V m c main_v35) e).trans (congrFun (biases m c) (ix3 h k 0))

theorem lower (c : Dev nD) : V m c main_v28 = fun j : S1x1024.Idx => (Cert.Reference5Ideal.Inproj.LB (m ((c : Thread nD τ).loc main_arg3)) : FVec Ideal S1024 .f32) (ix1 (j 1)) := by
  have e : V m c main_v28 = (shapeCast S1x1024 (Cert.Reference5Ideal.Inproj.LB (m ((c : Thread nD τ).loc main_arg3)) : FVec Ideal S1024 .f32) shapeCasts_S1024_S1x1024 : FVec Ideal S1x1024 .f32) := by
    unfold V
    simp only [hostOps0, hostOps0_1, hostOps0_2, hostOps0_3, hostOps0_4, List.flatten_cons, List.flatten_nil, List.append_nil, List.cons_append, List.nil_append]
    after_results; try rfl
  rw [e]; funext j; pointwise []

theorem lower_at (c : Dev nD) (t : Fin cfg0.N) (k : Fin 1024) : iblk m c 3 t (ix2 0 k) = Cert.Reference5Ideal.Inproj.LB (m ((c : Thread nD τ).loc main_arg3)) (ix1 k) := by
  have e : (win0_3.blk t).view.emb (ix2 0 k) = ix2 0 k := by blk_ext [idx t]
  exact (congrArg (V m c main_v28) e).trans (congrFun (lower m c) (ix2 0 k))

theorem lowerb (c : Dev nD) : V m c main_v31 = fun j : S1x1024.Idx => (Cert.Reference5Ideal.Inproj.LB (m ((c : Thread nD τ).loc main_arg4)) : FVec Ideal S1024 .f32) (ix1 (j 1)) := by
  have e : V m c main_v31 = (shapeCast S1x1024 (Cert.Reference5Ideal.Inproj.LB (m ((c : Thread nD τ).loc main_arg4)) : FVec Ideal S1024 .f32) shapeCasts_S1024_S1x1024 : FVec Ideal S1x1024 .f32) := by
    unfold V
    simp only [hostOps0, hostOps0_1, hostOps0_2, hostOps0_3, hostOps0_4, List.flatten_cons, List.flatten_nil, List.append_nil, List.cons_append, List.nil_append]
    after_results; try rfl
  rw [e]; funext j; pointwise []

theorem lowerb_at (c : Dev nD) (t : Fin cfg0.N) (k : Fin 1024) : iblk m c 4 t (ix2 0 k) = Cert.Reference5Ideal.Inproj.LB (m ((c : Thread nD τ).loc main_arg4)) (ix1 k) := by
  have e : (win0_4.blk t).view.emb (ix2 0 k) = ix2 0 k := by blk_ext [idx t]
  exact (congrArg (V m c main_v31) e).trans (congrFun (lowerb m c) (ix2 0 k))

theorem lgain (c : Dev nD) : V m c main_v32 = fun j : S1x1024.Idx => (m ((c : Thread nD τ).loc main_arg5) : FVec Ideal S1024 .f32) (ix1 (j 1)) := by
  have e : V m c main_v32 = (shapeCast S1x1024 (m ((c : Thread nD τ).loc main_arg5) : FVec Ideal S1024 .f32) shapeCasts_S1024_S1x1024 : FVec Ideal S1x1024 .f32) := by
    unfold V
    simp only [hostOps0, hostOps0_1, hostOps0_2, hostOps0_3, hostOps0_4, List.flatten_cons, List.flatten_nil, List.append_nil, List.cons_append, List.nil_append]
    after_results; try rfl
  rw [e]; funext j; pointwise []

theorem lgain_at (c : Dev nD) (t : Fin cfg0.N) (k : Fin 1024) : iblk m c 5 t (ix2 0 k) = m ((c : Thread nD τ).loc main_arg5) (ix1 k) := by
  have e : (win0_5.blk t).view.emb (ix2 0 k) = ix2 0 k := by blk_ext [idx t]
  exact (congrArg (V m c main_v32) e).trans (congrFun (lgain m c) (ix2 0 k))

theorem lbias (c : Dev nD) : V m c main_v33 = fun j : S1x1024.Idx => (m ((c : Thread nD τ).loc main_arg6) : FVec Ideal S1024 .f32) (ix1 (j 1)) := by
  have e : V m c main_v33 = (shapeCast S1x1024 (m ((c : Thread nD τ).loc main_arg6) : FVec Ideal S1024 .f32) shapeCasts_S1024_S1x1024 : FVec Ideal S1x1024 .f32) := by
    unfold V
    simp only [hostOps0, hostOps0_1, hostOps0_2, hostOps0_3, hostOps0_4, List.flatten_cons, List.flatten_nil, List.append_nil, List.cons_append, List.nil_append]
    after_results; try rfl
  rw [e]; funext j; pointwise []

theorem lbias_at (c : Dev nD) (t : Fin cfg0.N) (k : Fin 1024) : iblk m c 6 t (ix2 0 k) = m ((c : Thread nD τ).loc main_arg6) (ix1 k) := by
  have e : (win0_6.blk t).view.emb (ix2 0 k) = ix2 0 k := by blk_ext [idx t]
  exact (congrArg (V m c main_v33) e).trans (congrFun (lbias m c) (ix2 0 k))

theorem ogain (c : Dev nD) : V m c main_v36 = fun j : S1x1024.Idx => (m ((c : Thread nD τ).loc main_arg9) : FVec Ideal S1024 .f32) (ix1 (j 1)) := by
  have e : V m c main_v36 = (shapeCast S1x1024 (m ((c : Thread nD τ).loc main_arg9) : FVec Ideal S1024 .f32) shapeCasts_S1024_S1x1024 : FVec Ideal S1x1024 .f32) := by
    unfold V
    simp only [hostOps0, hostOps0_1, hostOps0_2, hostOps0_3, hostOps0_4, List.flatten_cons, List.flatten_nil, List.append_nil, List.cons_append, List.nil_append]
    after_results; try rfl
  rw [e]; funext j; pointwise []

theorem ogain_at (c : Dev nD) (t : Fin cfg0.N) (k : Fin 1024) : iblk m c 9 t (ix2 0 k) = m ((c : Thread nD τ).loc main_arg9) (ix1 k) := by
  have e : (win0_9.blk t).view.emb (ix2 0 k) = ix2 0 k := by blk_ext [idx t]
  exact (congrArg (V m c main_v36) e).trans (congrFun (ogain m c) (ix2 0 k))

/-- A block's projection is the formula's. -/
theorem z_at (c : Dev nD) (t : Fin cfg0.N) (r : Fin 256) (l : Fin 7168) : zrow (k0_pay400 (iblk m c 0 t) (iblk m c 1 t) (iblk m c 2 t) (iblk m c 3 t) (iblk m c 4 t) (iblk m c 5 t) (iblk m c 6 t) (iblk m c 7 t) (iblk m c 8 t) (iblk m c 9 t)) (iblk m c 2 t) r l
    = Cert.Reference5Ideal.Inproj.PROJ (m ((c : Thread nD τ).loc main_arg0)) (m ((c : Thread nD τ).loc main_arg1)) (m ((c : Thread nD τ).loc main_arg2)) (ix2 ⟨256 * t.val + r.val, row_lt t r⟩ l) := by
  refine (zrow_at _ _ _ _ _ _ _ _ _ _ r l).trans (Eq.trans ?_ (Cert.Reference5Ideal.Inproj.PROJ_at _ _ _ _ _).symm)
  simp only [x_at, gain_at, weights_at]

/-- A head row of the formula's, as a row of the projection. -/
theorem heads_at (p : FVec Ideal Cert.Reference5Ideal.S32768x7168 .f32) (o : Nat) (ho : o + 1024 ≤ 7168) (hs : Cert.Reference5Ideal.S32768x7168.Slices ![0, o] Cert.Reference5Ideal.S32768x1024)
    (t : Fin cfg0.N) (h : Fin 8) (r : Fin 256) (d : Fin 128) (n : Fin 16384) (e : n.val = 256 * (t.val % 64) + r.val) :
    Cert.Reference5Ideal.Inproj.HEADS p o hs (ix4 ⟨t.val / 64, by have := point_lt t; omega⟩ h n d) = p (ix2 ⟨256 * t.val + r.val, row_lt t r⟩ ⟨o + (128 * h.val + d.val), by omega⟩) := by
  refine (Cert.Reference5Ideal.Inproj.HEADS_at p o ho hs _ h n d).trans (congrArg (fun i => p (ix2 i _)) (Fin.ext ?_))
  dsimp only
  omega

/-! ## A point's blocks are the formulas' -/

theorem q_at (c : Dev nD) (t : Fin cfg0.N) (h : Fin 8) (r : Fin 256) (d : Fin 128) : (dats m 0 c).after 10 t (ix4 0 h r d)
    = Cert.Reference5Ideal.Inproj.Q (m ((c : Thread nD τ).loc main_arg0)) (m ((c : Thread nD τ).loc main_arg1)) (m ((c : Thread nD τ).loc main_arg2)) (ix4 ⟨t.val / 64, by have := point_lt t; omega⟩ h ⟨256 * (t.val % 64) + r.val, by omega⟩ d) := by
  rw [after0_10]
  refine (out_q _ _ _ _ _ _ _ _ _ _ h r d).trans (Eq.trans ?_ (Cert.Reference5Ideal.Inproj.SILU_at _ _ _ _ _).symm)
  rw [z_at, heads_at _ _ (by omega) _ t h r d _ rfl]

theorem g_at (c : Dev nD) (t : Fin cfg0.N) (h : Fin 8) (r : Fin 256) (d : Fin 128) : (dats m 0 c).after 16 t (ix4 0 h r d)
    = Cert.Reference5Ideal.Inproj.OG (m ((c : Thread nD τ).loc main_arg0)) (m ((c : Thread nD τ).loc main_arg1)) (m ((c : Thread nD τ).loc main_arg2)) (ix4 ⟨t.val / 64, by have := point_lt t; omega⟩ h ⟨256 * (t.val % 64) + r.val, by omega⟩ d) := by
  rw [after0_16]
  refine (out_g _ _ _ _ _ _ _ _ _ _ h r d).trans (Eq.trans ?_ (Cert.Reference5Ideal.Inproj.SILU_at _ _ _ _ _).symm)
  rw [z_at, heads_at _ _ (by omega) _ t h r d _ rfl]

theorem v_at (c : Dev nD) (t : Fin cfg0.N) (h : Fin 8) (r : Fin 256) (d : Fin 128) : (dats m 0 c).after 15 t (ix4 0 h r d)
    = Cert.Reference5Ideal.Inproj.VAL (m ((c : Thread nD τ).loc main_arg0)) (m ((c : Thread nD τ).loc main_arg1)) (m ((c : Thread nD τ).loc main_arg2)) (ix4 ⟨t.val / 64, by have := point_lt t; omega⟩ h ⟨256 * (t.val % 64) + r.val, by omega⟩ d) := by
  rw [after0_15]
  refine (out_v _ _ _ _ _ _ _ _ _ _ h r d).trans (Eq.trans ?_ (Cert.Reference5Ideal.Inproj.VALUES_at _ _ _ _ _).symm)
  rw [z_at, heads_at _ _ (by omega) _ t h r d _ rfl]

theorem kf_at (c : Dev nD) (t : Fin cfg0.N) (h : Fin 8) (r : Fin 256) (d : Fin 128) : (dats m 0 c).after 11 t (ix4 0 h r d)
    = Cert.Reference5Ideal.Inproj.KF (m ((c : Thread nD τ).loc main_arg0)) (m ((c : Thread nD τ).loc main_arg1)) (m ((c : Thread nD τ).loc main_arg2)) (Cert.Reference5Ideal.Inproj.LB (m ((c : Thread nD τ).loc main_arg3))) (ix4 ⟨t.val / 64, by have := point_lt t; omega⟩ h ⟨256 * (t.val % 64) + r.val, by omega⟩ d) := by
  rw [after0_11]
  refine (out_kf _ _ _ _ _ _ _ _ _ _ h r d).trans (Eq.trans ?_ (Cert.Reference5Ideal.Inproj.KEYS_at _ _ _ _ _ _).symm)
  rw [z_at, lower_at, Cert.Reference5Ideal.Inproj.BOUNDS_at]
  exact congrArg (_root_.Inproj.key _) (heads_at _ _ (by omega) _ t h r d _ rfl).symm

theorem kb_at (c : Dev nD) (t : Fin cfg0.N) (h : Fin 8) (r : Fin 256) (d : Fin 128) : (dats m 0 c).after 12 t (ix4 0 h r d)
    = Cert.Reference5Ideal.Inproj.KB (m ((c : Thread nD τ).loc main_arg0)) (m ((c : Thread nD τ).loc main_arg1)) (m ((c : Thread nD τ).loc main_arg2)) (Cert.Reference5Ideal.Inproj.LB (m ((c : Thread nD τ).loc main_arg4))) (ix4 ⟨t.val / 64, by have := point_lt t; omega⟩ h ⟨256 * (t.val % 64) + r.val, by omega⟩ d) := by
  rw [after0_12]
  refine (out_kb _ _ _ _ _ _ _ _ _ _ h r d).trans (Eq.trans ?_ (Cert.Reference5Ideal.Inproj.KEYS_at _ _ _ _ _ _).symm)
  rw [z_at, lowerb_at, Cert.Reference5Ideal.Inproj.BOUNDS_at]
  exact congrArg (_root_.Inproj.key _) (heads_at _ _ (by omega) _ t h r d _ rfl).symm

theorem pf_at (c : Dev nD) (t : Fin cfg0.N) (h : Fin 8) (r : Fin 256) (d : Fin 128) : (dats m 0 c).after 13 t (ix4 0 h r d)
    = Cert.Reference5Ideal.Inproj.PF (m ((c : Thread nD τ).loc main_arg0)) (m ((c : Thread nD τ).loc main_arg1)) (m ((c : Thread nD τ).loc main_arg2)) (Cert.Reference5Ideal.Inproj.LB (m ((c : Thread nD τ).loc main_arg3))) (ix4 ⟨t.val / 64, by have := point_lt t; omega⟩ h ⟨256 * (t.val % 64) + r.val, by omega⟩ d) := by
  rw [after0_13]
  refine (out_pf _ _ _ _ _ _ _ _ _ _ h r d).trans (Eq.trans ?_ (Cert.Reference5Ideal.Inproj.SUMF_at _ _ _ _ _).symm)
  refine Finset.sum_congr rfl fun i _ => ?_
  have e : (256 * (t.val % 64) + r.val) % 64 = r.val % 64 := by omega
  dsimp only
  rw [e]
  refine ite_congr rfl (fun _ => ?_) fun _ => rfl
  rw [z_at, lower_at, Cert.Reference5Ideal.Inproj.LOGS_at, Cert.Reference5Ideal.Inproj.BOUNDS_at]
  exact congrArg (_root_.Inproj.glog _) (heads_at _ _ (by omega) _ t h ⟨64 * (r.val / 64) + i.val, by omega⟩ d _ (by dsimp only; omega)).symm

theorem cb_at (c : Dev nD) (t : Fin cfg0.N) (h : Fin 8) (r : Fin 256) (d : Fin 128) : (dats m 0 c).after 14 t (ix4 0 h r d)
    = Cert.Reference5Ideal.Inproj.CB (m ((c : Thread nD τ).loc main_arg0)) (m ((c : Thread nD τ).loc main_arg1)) (m ((c : Thread nD τ).loc main_arg2)) (Cert.Reference5Ideal.Inproj.LB (m ((c : Thread nD τ).loc main_arg4))) (ix4 ⟨t.val / 64, by have := point_lt t; omega⟩ h ⟨256 * (t.val % 64) + r.val, by omega⟩ d) := by
  rw [after0_14]
  refine (out_cb _ _ _ _ _ _ _ _ _ _ h r d).trans (Eq.trans ?_ (Cert.Reference5Ideal.Inproj.SUMB_at _ _ _ _ _).symm)
  refine Finset.sum_congr rfl fun i _ => ?_
  have e : (256 * (t.val % 64) + r.val) % 64 = r.val % 64 := by omega
  dsimp only
  rw [e]
  refine ite_congr rfl (fun _ => ?_) fun _ => rfl
  rw [z_at, lowerb_at, Cert.Reference5Ideal.Inproj.LOGS_at, Cert.Reference5Ideal.Inproj.BOUNDS_at]
  exact congrArg (_root_.Inproj.glog _) (heads_at _ _ (by omega) _ t h ⟨64 * (r.val / 64) + i.val, by omega⟩ d _ (by dsimp only; omega)).symm

theorem gated_row (c : Dev nD) (t : Fin cfg0.N) (r : Fin 256) (l : Fin 1024) : gated (iblk m c 0 t) (iblk m c 1 t) (iblk m c 2 t) (iblk m c 3 t) (iblk m c 4 t) (iblk m c 5 t) (iblk m c 6 t) (iblk m c 7 t) (iblk m c 8 t) (iblk m c 9 t) r l
    = Cert.Reference5Ideal.Inproj.GATED (Cert.Reference5Ideal.Inproj.PROJ (m ((c : Thread nD τ).loc main_arg0)) (m ((c : Thread nD τ).loc main_arg1)) (m ((c : Thread nD τ).loc main_arg2))) (m ((c : Thread nD τ).loc main_arg5)) (m ((c : Thread nD τ).loc main_arg6)) (m ((c : Thread nD τ).loc main_arg7)) (m ((c : Thread nD τ).loc main_arg8)) (ix2 ⟨256 * t.val + r.val, row_lt t r⟩ l) := by
  refine Eq.trans ?_ (Cert.Reference5Ideal.Inproj.GATED_at _ _ _ _ _ _ _).symm
  have e : (⟨(256 * t.val + r.val) % 128, by omega⟩ : Fin 128) = ⟨r.val % 128, by omega⟩ := Fin.ext (by dsimp only; omega)
  have e' (k : Fin 128) : (⟨128 * ((256 * t.val + r.val) / 128) + k.val, by have := row_lt t r; omega⟩ : Fin 32768)
      = ⟨256 * t.val + (128 * (r.val / 128) + k.val), by have := row_lt t r; omega⟩ := Fin.ext (by dsimp only; omega)
  simp only [gated, z_at, mixing_at, biases_at, lgain_at, lbias_at, e, e']

theorem s_at (c : Dev nD) (t : Fin cfg0.N) (r : Fin 256) (l : Fin 1024) : (dats m 0 c).after 17 t (ix2 r l)
    = Cert.Reference5Ideal.Inproj.S (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (ix2 ⟨256 * t.val + r.val, row_lt t r⟩ l) := by
  rw [after0_17]
  refine (out_s _ _ _ _ _ _ _ _ _ _ r l).trans (Eq.trans ?_ (Cert.Reference5Ideal.Inproj.FEATURES_at _ _ _ _ _ _ _ _).symm)
  rw [ogain_at]
  exact congrArg (fun f => _root_.Inproj.rms 0x44800000#32 f _ l) (funext fun k => gated_row m c t r k)

/-! ## The arrays after the run -/

/-- The queries after the run are their formula of the argument arrays. -/
theorem final_q (c : Dev nD) : (dats m 0 c).arrAt 10 (cfgs 0).N = Cert.Reference5Ideal.Inproj.Q (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  have hi := (idx_heads t).1
  have y2 : (y 2).val < 256 := (y 2).isLt
  have e : (win0_10.blk t).view.emb y = ix4 ⟨t.val / 64, by have := point_lt t; omega⟩ (y 1) ⟨256 * (t.val % 64) + (y 2).val, by omega⟩ (y 3) := by blk_ext [hi]
  have ey : y = ix4 0 (y 1) (y 2) (y 3) := by blk_ext []
  rw [e]
  exact (congrArg ((dats m 0 c).after 10 t) ey).trans (q_at m c t (y 1) (y 2) (y 3))

/-- The forward keys after the run are their formula of the argument arrays. -/
theorem final_kf (c : Dev nD) : (dats m 0 c).arrAt 11 (cfgs 0).N = Cert.Reference5Ideal.Inproj.KF (m ((c : Thread nD τ).loc main_arg0)) (m ((c : Thread nD τ).loc main_arg1)) (m ((c : Thread nD τ).loc main_arg2)) (Cert.Reference5Ideal.Inproj.LB (m ((c : Thread nD τ).loc main_arg3))) := by
  refine (dats m 0 c).arrAt_eq_of_covers 11 _ (by decide +kernel) fun t hf y => ?_
  blk_simp
  have hi := (idx_heads t).2.1
  have y2 : (y 2).val < 256 := (y 2).isLt
  have e : (win0_11.blk t).view.emb y = ix4 ⟨t.val / 64, by have := point_lt t; omega⟩ (y 1) ⟨256 * (t.val % 64) + (y 2).val, by omega⟩ (y 3) := by blk_ext [hi]
  have ey : y = ix4 0 (y 1) (y 2) (y 3) := by blk_ext []
  rw [e]
  exact (congrArg ((dats m 0 c).after 11 t) ey).trans (kf_at m c t (y 1) (y 2) (y 3))

/-- The backward keys after the run are their formula of the argument arrays. -/
theorem final_kb (c : Dev nD) : (dats m 0 c).arrAt 12 (cfgs 0).N = Cert.Reference5Ideal.Inproj.KB (m ((c : Thread nD τ).loc main_arg0)) (m ((c : Thread nD τ).loc main_arg1)) (m ((c : Thread nD τ).loc main_arg2)) (Cert.Reference5Ideal.Inproj.LB (m ((c : Thread nD τ).loc main_arg4))) := by
  refine (dats m 0 c).arrAt_eq_of_covers 12 _ (by decide +kernel) fun t hf y => ?_
  blk_simp
  have hi := (idx_heads t).2.2.1
  have y2 : (y 2).val < 256 := (y 2).isLt
  have e : (win0_12.blk t).view.emb y = ix4 ⟨t.val / 64, by have := point_lt t; omega⟩ (y 1) ⟨256 * (t.val % 64) + (y 2).val, by omega⟩ (y 3) := by blk_ext [hi]
  have ey : y = ix4 0 (y 1) (y 2) (y 3) := by blk_ext []
  rw [e]
  exact (congrArg ((dats m 0 c).after 12 t) ey).trans (kb_at m c t (y 1) (y 2) (y 3))

/-- The forward running sums after the run are their formula of the argument arrays. -/
theorem final_pf (c : Dev nD) : (dats m 0 c).arrAt 13 (cfgs 0).N = Cert.Reference5Ideal.Inproj.PF (m ((c : Thread nD τ).loc main_arg0)) (m ((c : Thread nD τ).loc main_arg1)) (m ((c : Thread nD τ).loc main_arg2)) (Cert.Reference5Ideal.Inproj.LB (m ((c : Thread nD τ).loc main_arg3))) := by
  refine (dats m 0 c).arrAt_eq_of_covers 13 _ (by decide +kernel) fun t hf y => ?_
  blk_simp
  have hi := (idx_heads t).2.2.2.1
  have y2 : (y 2).val < 256 := (y 2).isLt
  have e : (win0_13.blk t).view.emb y = ix4 ⟨t.val / 64, by have := point_lt t; omega⟩ (y 1) ⟨256 * (t.val % 64) + (y 2).val, by omega⟩ (y 3) := by blk_ext [hi]
  have ey : y = ix4 0 (y 1) (y 2) (y 3) := by blk_ext []
  rw [e]
  exact (congrArg ((dats m 0 c).after 13 t) ey).trans (pf_at m c t (y 1) (y 2) (y 3))

/-- The backward running sums after the run are their formula of the argument arrays. -/
theorem final_cb (c : Dev nD) : (dats m 0 c).arrAt 14 (cfgs 0).N = Cert.Reference5Ideal.Inproj.CB (m ((c : Thread nD τ).loc main_arg0)) (m ((c : Thread nD τ).loc main_arg1)) (m ((c : Thread nD τ).loc main_arg2)) (Cert.Reference5Ideal.Inproj.LB (m ((c : Thread nD τ).loc main_arg4))) := by
  refine (dats m 0 c).arrAt_eq_of_covers 14 _ (by decide +kernel) fun t hf y => ?_
  blk_simp
  have hi := (idx_heads t).2.2.2.2.1
  have y2 : (y 2).val < 256 := (y 2).isLt
  have e : (win0_14.blk t).view.emb y = ix4 ⟨t.val / 64, by have := point_lt t; omega⟩ (y 1) ⟨256 * (t.val % 64) + (y 2).val, by omega⟩ (y 3) := by blk_ext [hi]
  have ey : y = ix4 0 (y 1) (y 2) (y 3) := by blk_ext []
  rw [e]
  exact (congrArg ((dats m 0 c).after 14 t) ey).trans (cb_at m c t (y 1) (y 2) (y 3))

/-- The values after the run are their formula of the argument arrays. -/
theorem final_v (c : Dev nD) : (dats m 0 c).arrAt 15 (cfgs 0).N = Cert.Reference5Ideal.Inproj.VAL (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  have hi := (idx_heads t).2.2.2.2.2.1
  have y2 : (y 2).val < 256 := (y 2).isLt
  have e : (win0_15.blk t).view.emb y = ix4 ⟨t.val / 64, by have := point_lt t; omega⟩ (y 1) ⟨256 * (t.val % 64) + (y 2).val, by omega⟩ (y 3) := by blk_ext [hi]
  have ey : y = ix4 0 (y 1) (y 2) (y 3) := by blk_ext []
  rw [e]
  exact (congrArg ((dats m 0 c).after 15 t) ey).trans (v_at m c t (y 1) (y 2) (y 3))

/-- The output gates after the run are their formula of the argument arrays. -/
theorem final_g (c : Dev nD) : (dats m 0 c).arrAt 16 (cfgs 0).N = Cert.Reference5Ideal.Inproj.OG (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  have hi := (idx_heads t).2.2.2.2.2.2
  have y2 : (y 2).val < 256 := (y 2).isLt
  have e : (win0_16.blk t).view.emb y = ix4 ⟨t.val / 64, by have := point_lt t; omega⟩ (y 1) ⟨256 * (t.val % 64) + (y 2).val, by omega⟩ (y 3) := by blk_ext [hi]
  have ey : y = ix4 0 (y 1) (y 2) (y 3) := by blk_ext []
  rw [e]
  exact (congrArg ((dats m 0 c).after 16 t) ey).trans (g_at m c t (y 1) (y 2) (y 3))

/-- The gated features after the run are their formula of the argument arrays. -/
theorem final_s (c : Dev nD) : (dats m 0 c).arrAt 17 (cfgs 0).N = Cert.Reference5Ideal.Inproj.S (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 17 _ (by decide +kernel) fun t hf y => ?_
  blk_simp
  have hi := (idx t).2.2.2.2.2.2.2.2.2.2
  have e : (win0_17.blk t).view.emb y = ix2 ⟨256 * t.val + (y 0).val, row_lt t (y 0)⟩ (y 1) := by blk_ext [hi]
  have ey : y = ix2 (y 0) (y 1) := by blk_ext []
  rw [e]
  exact (congrArg ((dats m 0 c).after 17 t) ey).trans (s_at m c t (y 0) (y 1))

end Cert.Kernel5Ideal.Inproj

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Loops
public import proofs.«01_k».proof.Proof.Gen.Kernel.Frame.Runs
public import proofs.«01_k».proof.Proof.Gen.KernelIdeal
public import proofs.«01_k».proof.Proof.Gen.ReferenceIdeal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.ReferenceIdeal.Step
public import proofs.«01_k».proof.Proof.Gen.Reference3Ideal.Run
public import proofs.«01_k».proof.Proof.Gen.Reference4Ideal.Run
public import proofs.«01_k».proof.Proof.Ffn
public import proofs.«01_k».proof.Proof.Scan
public import proofs.«01_k».proof.Proof.ScanIdeal
public import proofs.«01_k».proof.Proof.ScanRef
public import proofs.«01_k».proof.Proof.ScanValue
public import proofs.«01_k».proof.Proof.Mix
public import proofs.«01_k».proof.Proof.Ple
public import proofs.«01_k».proof.Proof.Inproj
public import Idealize.ShloMosaic.Adequacy
public import Idealize.ShloMosaic.Init

@[expose] public section

noncomputable section

namespace Cert.Proof

open Idealize.ShloMosaic Idealize.SL.Sem

/-! ## The backward recurrence -/

/-- The formula's run keeps its arguments and leaves every semaphore at zero. -/
theorem frame_scan_reference : quiescent_ReferenceIdeal := fun m ρ _ =>
  (θ_run Cert.ReferenceIdeal.defs _ _).mono (fun r h => ⟨fun c => (h c).2, sem_eq_zero_of_no_sems (by decide) r.2⟩)
    (Cert.ReferenceIdeal.Scan.run_result m ρ)

/-- The chunked kernel's stack of states is the recurrence's, element by element, over the extended reals. -/
theorem algebraic_scan : algebraic_KernelIdeal_ReferenceIdeal := by
  unfold algebraic_KernelIdeal_ReferenceIdeal
  intro m g m' g' _ hagree
  refine ⟨fun c => Cert.ReferenceIdeal.Scan.RES (m (c.tc.loc Cert.KernelIdeal.main_arg0)) (m (c.tc.loc Cert.KernelIdeal.main_arg1)) (m (c.tc.loc Cert.KernelIdeal.main_arg2)), ?_, ?_⟩
  · refine (θ_run _ _ _).mono (fun r h c => ?_) (Cert.Kernel.Scan.run_ideal m g)
    exact ⟨(h c).1.trans (Cert.Kernel.Scan.final m c), (h c).2⟩
  · refine (θ_run _ _ _).mono (fun r h c => ?_) (Cert.ReferenceIdeal.Scan.run_result m' g')
    obtain ⟨e0, e1, e2⟩ := hagree c
    refine ⟨(h c).1.trans ?_, (h c).2⟩
    rw [e0, e1, e2]

/-! ## The feed-forward network -/

/-- The formula's run keeps its arguments and leaves every semaphore at zero. -/
theorem frame_ffn_reference : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result array is the formula's, element by element, over the extended reals. -/
theorem algebraic_ffn : algebraic_Kernel2Ideal_Reference2Ideal := by
  unfold algebraic_Kernel2Ideal_Reference2Ideal
  intro m g m' g' _ hagree
  refine ⟨fun c => Cert.Reference2Ideal.Ffn.REF (m (c.tc.loc Cert.Kernel2Ideal.main_arg0)) (m (c.tc.loc Cert.Kernel2Ideal.main_arg1)) (m (c.tc.loc Cert.Kernel2Ideal.main_arg2)) (m (c.tc.loc Cert.Kernel2Ideal.main_arg3)), ?_, ?_⟩
  · refine (θ_run _ _ _).mono (fun r h c => ?_) (Cert.Kernel2Ideal.Value.run_blocks m g)
    exact ⟨(h c).1.trans (Cert.Kernel2Ideal.Ffn.final m c), (h c).2⟩
  · refine (θ_run _ _ _).mono (fun r h c => ?_) (Cert.Reference2Ideal.Value.run m' g')
    obtain ⟨e0, e1, e2, e3⟩ := hagree c
    refine ⟨(h c).1.trans ?_, (h c).2⟩
    rw [e0, e1, e2, e3]

/-! ## The output projection -/

/-- The formula's run keeps its arguments and leaves every semaphore at zero. -/
theorem frame_mix_reference : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Both of the kernel's result arrays, the residual stream and its normalised rows, are the formula's. -/
theorem algebraic_mix : algebraic_Kernel3Ideal_Reference3Ideal := by
  unfold algebraic_Kernel3Ideal_Reference3Ideal
  intro m g m' g' _ hagree
  refine ⟨fun c => Cert.Reference3Ideal.Mix.RES (m (c.tc.loc Cert.Kernel3Ideal.main_arg0)) (m (c.tc.loc Cert.Kernel3Ideal.main_arg1)) (m (c.tc.loc Cert.Kernel3Ideal.main_arg2)) (m (c.tc.loc Cert.Kernel3Ideal.main_arg3)),
    fun c => Cert.Reference3Ideal.Mix.NRM (Cert.Reference3Ideal.Mix.RES (m (c.tc.loc Cert.Kernel3Ideal.main_arg0)) (m (c.tc.loc Cert.Kernel3Ideal.main_arg1)) (m (c.tc.loc Cert.Kernel3Ideal.main_arg2)) (m (c.tc.loc Cert.Kernel3Ideal.main_arg3))) (m (c.tc.loc Cert.Kernel3Ideal.main_arg4)), ?_, ?_⟩
  · refine (θ_run _ _ _).mono (fun r h c => ?_) (Cert.Kernel3Ideal.Value.run_blocks m g)
    exact ⟨(h c).1.trans (Cert.Kernel3Ideal.Mix.final_res m c), (h c).2.1.trans (Cert.Kernel3Ideal.Mix.final_nrm m c), (h c).2.2⟩
  · refine (θ_run _ _ _).mono (fun r h c => ?_) (Cert.Reference3Ideal.Value.run m' g')
    obtain ⟨e0, e1, e2, e3, e4⟩ := hagree c
    refine ⟨(h c).1.trans ?_, (h c).2.1.trans ?_, (h c).2.2⟩
    · rw [e0, e1, e2, e3]
      rfl
    · rw [e0, e1, e2, e3, e4]
      rfl

/-! ## The per-layer embedding block -/

/-- The formula's run keeps its arguments and leaves every semaphore at zero. -/
theorem frame_ple_reference : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result array, the layer's output, is the formula's, element by element, over the extended reals. -/
theorem algebraic_ple : algebraic_Kernel4Ideal_Reference4Ideal := by
  unfold algebraic_Kernel4Ideal_Reference4Ideal
  intro m g m' g' _ hagree
  refine ⟨fun c => Cert.Reference4Ideal.Ple.REF (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg4)) (m (c.tc.loc Cert.Kernel4Ideal.main_arg5)) (m (c.tc.loc Cert.Kernel4Ideal.main_arg6)), ?_, ?_⟩
  · refine (θ_run _ _ _).mono (fun r h c => ?_) (Cert.Kernel4Ideal.Value.run_blocks m g)
    exact ⟨(h c).1.trans (Cert.Kernel4Ideal.Ple.final m c), (h c).2⟩
  · refine (θ_run _ _ _).mono (fun r h c => ?_) (Cert.Reference4Ideal.Value.run m' g')
    obtain ⟨e0, e1, e2, e3, e4, e5, e6⟩ := hagree c
    refine ⟨(h c).1.trans ((Cert.Reference4Ideal.Ple.result_eq m' c).trans ?_), (h c).2⟩
    rw [e0, e1, e2, e3, e4, e5, e6]

/-! ## The input projection -/

/-- The formula's run keeps its arguments and leaves every semaphore at zero. -/
theorem frame_inproj_reference : quiescent_Reference5Ideal := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

/-- The one named constant is the reciprocal of the natural logarithm of two. -/
theorem preserves_inproj : preserves_Kernel5_Kernel5Ideal :=
  IdealRules.named_const.statement Cert.Kernel5Ideal.κ "log2e" .f32 0x3FB8AA3B#32 (((Real.log 2)⁻¹ : ℝ) : EReal) rfl

/-- All eight of the kernel's result arrays, the queries, the keys and running sums of both directions, the values, the
    output gates and the gated features, are the formula's, element by element, over the extended reals. -/
theorem algebraic_inproj : algebraic_Kernel5Ideal_Reference5Ideal := by
  unfold algebraic_Kernel5Ideal_Reference5Ideal
  intro m g m' g' _ hagree
  refine ⟨fun c => Cert.Reference5Ideal.Inproj.Q (m (c.tc.loc Cert.Kernel5Ideal.main_arg0)) (m (c.tc.loc Cert.Kernel5Ideal.main_arg1)) (m (c.tc.loc Cert.Kernel5Ideal.main_arg2)),
    fun c => Cert.Reference5Ideal.Inproj.KF (m (c.tc.loc Cert.Kernel5Ideal.main_arg0)) (m (c.tc.loc Cert.Kernel5Ideal.main_arg1)) (m (c.tc.loc Cert.Kernel5Ideal.main_arg2)) (Cert.Reference5Ideal.Inproj.LB (m (c.tc.loc Cert.Kernel5Ideal.main_arg3))),
    fun c => Cert.Reference5Ideal.Inproj.KB (m (c.tc.loc Cert.Kernel5Ideal.main_arg0)) (m (c.tc.loc Cert.Kernel5Ideal.main_arg1)) (m (c.tc.loc Cert.Kernel5Ideal.main_arg2)) (Cert.Reference5Ideal.Inproj.LB (m (c.tc.loc Cert.Kernel5Ideal.main_arg4))),
    fun c => Cert.Reference5Ideal.Inproj.PF (m (c.tc.loc Cert.Kernel5Ideal.main_arg0)) (m (c.tc.loc Cert.Kernel5Ideal.main_arg1)) (m (c.tc.loc Cert.Kernel5Ideal.main_arg2)) (Cert.Reference5Ideal.Inproj.LB (m (c.tc.loc Cert.Kernel5Ideal.main_arg3))),
    fun c => Cert.Reference5Ideal.Inproj.CB (m (c.tc.loc Cert.Kernel5Ideal.main_arg0)) (m (c.tc.loc Cert.Kernel5Ideal.main_arg1)) (m (c.tc.loc Cert.Kernel5Ideal.main_arg2)) (Cert.Reference5Ideal.Inproj.LB (m (c.tc.loc Cert.Kernel5Ideal.main_arg4))),
    fun c => Cert.Reference5Ideal.Inproj.VAL (m (c.tc.loc Cert.Kernel5Ideal.main_arg0)) (m (c.tc.loc Cert.Kernel5Ideal.main_arg1)) (m (c.tc.loc Cert.Kernel5Ideal.main_arg2)),
    fun c => Cert.Reference5Ideal.Inproj.OG (m (c.tc.loc Cert.Kernel5Ideal.main_arg0)) (m (c.tc.loc Cert.Kernel5Ideal.main_arg1)) (m (c.tc.loc Cert.Kernel5Ideal.main_arg2)),
    fun c => Cert.Reference5Ideal.Inproj.S (m (c.tc.loc Cert.Kernel5Ideal.main_arg0)) (m (c.tc.loc Cert.Kernel5Ideal.main_arg1)) (m (c.tc.loc Cert.Kernel5Ideal.main_arg2)) (m (c.tc.loc Cert.Kernel5Ideal.main_arg5)) (m (c.tc.loc Cert.Kernel5Ideal.main_arg6)) (m (c.tc.loc Cert.Kernel5Ideal.main_arg7)) (m (c.tc.loc Cert.Kernel5Ideal.main_arg8)) (m (c.tc.loc Cert.Kernel5Ideal.main_arg9)), ?_, ?_⟩
  · refine (θ_run _ _ _).mono (fun r h c => ?_) (Cert.Kernel5Ideal.Value.run_blocks m g)
    exact ⟨(h c).1.trans (Cert.Kernel5Ideal.Inproj.final_q m c),
      (h c).2.1.trans (Cert.Kernel5Ideal.Inproj.final_kf m c),
      (h c).2.2.1.trans (Cert.Kernel5Ideal.Inproj.final_kb m c),
      (h c).2.2.2.1.trans (Cert.Kernel5Ideal.Inproj.final_pf m c),
      (h c).2.2.2.2.1.trans (Cert.Kernel5Ideal.Inproj.final_cb m c),
      (h c).2.2.2.2.2.1.trans (Cert.Kernel5Ideal.Inproj.final_v m c),
      (h c).2.2.2.2.2.2.1.trans (Cert.Kernel5Ideal.Inproj.final_g m c),
      (h c).2.2.2.2.2.2.2.1.trans (Cert.Kernel5Ideal.Inproj.final_s m c), (h c).2.2.2.2.2.2.2.2⟩
  · refine (θ_run _ _ _).mono (fun r h c => ?_) (Cert.Reference5Ideal.Value.run m' g')
    obtain ⟨e0, e1, e2, e3, e4, e5, e6, e7, e8, e9⟩ := hagree c
    refine ⟨(h c).1.trans (Eq.trans (b := Cert.Reference5Ideal.Inproj.Q (m' (c.tc.loc Cert.Reference5Ideal.main_arg0)) (m' (c.tc.loc Cert.Reference5Ideal.main_arg1)) (m' (c.tc.loc Cert.Reference5Ideal.main_arg2))) rfl ?_),
      (h c).2.1.trans (Eq.trans (b := Cert.Reference5Ideal.Inproj.KF (m' (c.tc.loc Cert.Reference5Ideal.main_arg0)) (m' (c.tc.loc Cert.Reference5Ideal.main_arg1)) (m' (c.tc.loc Cert.Reference5Ideal.main_arg2)) (Cert.Reference5Ideal.Inproj.LB (m' (c.tc.loc Cert.Reference5Ideal.main_arg3)))) rfl ?_),
      (h c).2.2.1.trans (Eq.trans (b := Cert.Reference5Ideal.Inproj.KB (m' (c.tc.loc Cert.Reference5Ideal.main_arg0)) (m' (c.tc.loc Cert.Reference5Ideal.main_arg1)) (m' (c.tc.loc Cert.Reference5Ideal.main_arg2)) (Cert.Reference5Ideal.Inproj.LB (m' (c.tc.loc Cert.Reference5Ideal.main_arg4)))) rfl ?_),
      (h c).2.2.2.1.trans (Eq.trans (b := Cert.Reference5Ideal.Inproj.PF (m' (c.tc.loc Cert.Reference5Ideal.main_arg0)) (m' (c.tc.loc Cert.Reference5Ideal.main_arg1)) (m' (c.tc.loc Cert.Reference5Ideal.main_arg2)) (Cert.Reference5Ideal.Inproj.LB (m' (c.tc.loc Cert.Reference5Ideal.main_arg3)))) rfl ?_),
      (h c).2.2.2.2.1.trans (Eq.trans (b := Cert.Reference5Ideal.Inproj.CB (m' (c.tc.loc Cert.Reference5Ideal.main_arg0)) (m' (c.tc.loc Cert.Reference5Ideal.main_arg1)) (m' (c.tc.loc Cert.Reference5Ideal.main_arg2)) (Cert.Reference5Ideal.Inproj.LB (m' (c.tc.loc Cert.Reference5Ideal.main_arg4)))) rfl ?_),
      (h c).2.2.2.2.2.1.trans (Eq.trans (b := Cert.Reference5Ideal.Inproj.VAL (m' (c.tc.loc Cert.Reference5Ideal.main_arg0)) (m' (c.tc.loc Cert.Reference5Ideal.main_arg1)) (m' (c.tc.loc Cert.Reference5Ideal.main_arg2))) rfl ?_),
      (h c).2.2.2.2.2.2.1.trans (Eq.trans (b := Cert.Reference5Ideal.Inproj.OG (m' (c.tc.loc Cert.Reference5Ideal.main_arg0)) (m' (c.tc.loc Cert.Reference5Ideal.main_arg1)) (m' (c.tc.loc Cert.Reference5Ideal.main_arg2))) rfl ?_),
      (h c).2.2.2.2.2.2.2.1.trans (Eq.trans (b := Cert.Reference5Ideal.Inproj.S (m' (c.tc.loc Cert.Reference5Ideal.main_arg0)) (m' (c.tc.loc Cert.Reference5Ideal.main_arg1)) (m' (c.tc.loc Cert.Reference5Ideal.main_arg2)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))) rfl ?_), (h c).2.2.2.2.2.2.2.2⟩
    · rw [e0, e1, e2]
    · rw [e0, e1, e2, e3]
    · rw [e0, e1, e2, e4]
    · rw [e0, e1, e2, e3]
    · rw [e0, e1, e2, e4]
    · rw [e0, e1, e2]
    · rw [e0, e1, e2]
    · rw [e0, e1, e2, e5, e6, e7, e8, e9]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Cert.Kernel.Scan.frame m ρ, Cert.Kernel.Scan.frame_ideal, frame_scan_reference,
    fun m ρ _ => Cert.Kernel2.Gen.frame m ρ, fun m ρ _ => Cert.Kernel2Ideal.Gen.frame m ρ, frame_ffn_reference,
    fun m ρ _ => Cert.Kernel3.Gen.frame m ρ, fun m ρ _ => Cert.Kernel3Ideal.Gen.frame m ρ, frame_mix_reference,
    fun m ρ _ => Cert.Kernel4.Gen.frame m ρ, fun m ρ _ => Cert.Kernel4Ideal.Gen.frame m ρ, frame_ple_reference,
    fun m ρ _ => Cert.Kernel5.Gen.frame m ρ, fun m ρ _ => Cert.Kernel5Ideal.Gen.frame m ρ, frame_inproj_reference,
    trivial, algebraic_scan, trivial, algebraic_ffn, trivial, algebraic_mix, trivial, algebraic_ple,
    preserves_inproj, algebraic_inproj⟩

end Cert.Proof

end
